-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x64 : Shape := ⟨3, ![8, 64, 64]⟩
abbrev S64x256 : Shape := ⟨2, ![64, 256]⟩
abbrev S8x64x64x512 : Shape := ⟨4, ![8, 64, 64, 512]⟩
abbrev S4096x512 : Shape := ⟨2, ![4096, 512]⟩
abbrev S8x4 : Shape := ⟨2, ![8, 4]⟩
abbrev S1024x64 : Shape := ⟨2, ![1024, 64]⟩
abbrev S1024x256 : Shape := ⟨2, ![1024, 256]⟩
abbrev S1x1 : Shape := ⟨2, ![1, 1]⟩
abbrev S_ : Shape := ⟨0, ![]⟩
abbrev S8x4096x512 : Shape := ⟨3, ![8, 4096, 512]⟩
abbrev S1x1024x512 : Shape := ⟨3, ![1, 1024, 512]⟩
abbrev S1024x512 : Shape := ⟨2, ![1024, 512]⟩
abbrev S8x512x64x64 : Shape := ⟨4, ![8, 512, 64, 64]⟩

abbrev nBuf : Space → Nat
  | .hbm => 5
  | .vmem => 3
  | .smem => 0
  | _ => 0

abbrev bufTy : (tb : Table) → Fin (tcTables nBuf tb) → BufTy
  | .hbm, ⟨0, _⟩ => ⟨S8x64x64, .i1⟩
  | .hbm, ⟨1, _⟩ => ⟨S64x256, .f32⟩
  | .hbm, ⟨2, _⟩ => ⟨S64x256, .f32⟩
  | .hbm, ⟨3, _⟩ => ⟨S8x64x64x512, .f32⟩
  | .hbm, ⟨4, _⟩ => ⟨S8x512x64x64, .f32⟩
  | .local _ .vmem, ⟨0, _⟩ => ⟨S64x256, .f32⟩
  | .local _ .vmem, ⟨1, _⟩ => ⟨S64x256, .f32⟩
  | .local _ .vmem, ⟨2, _⟩ => ⟨S4096x512, .f32⟩
  | _, _ => ⟨S8x64x64, .i1⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x64x64 : Shape := ⟨3, ![8, 64, 64]⟩
abbrev S64x256 : Shape := ⟨2, ![64, 256]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S1x64x256 : Shape := ⟨3, ![1, 64, 256]⟩
abbrev S64x64x256 : Shape := ⟨3, ![64, 64, 256]⟩
abbrev S64x1x256 : Shape := ⟨3, ![64, 1, 256]⟩
abbrev S64x64x512 : Shape := ⟨3, ![64, 64, 512]⟩
abbrev S512x64x64 : Shape := ⟨3, ![512, 64, 64]⟩
abbrev S1x512x64x64 : Shape := ⟨4, ![1, 512, 64, 64]⟩
abbrev S8x512x64x64 : Shape := ⟨4, ![8, 512, 64, 64]⟩

abbrev nBuf : Space → Nat
  | .hbm => 59
  | .vmem => 0
  | .smem => 0
  | _ => 0

abbrev bufTy : (tb : Table) → Fin (tcTables nBuf tb) → BufTy
  | .hbm, ⟨0, _⟩ => ⟨S8x64x64, .i1⟩
  | .hbm, ⟨1, _⟩ => ⟨S64x256, .f32⟩
  | .hbm, ⟨2, _⟩ => ⟨S64x256, .f32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x256, .f32⟩
  | .hbm, ⟨24, _⟩ => ⟨S64x256, .i1⟩
  | .hbm, ⟨25, _⟩ => ⟨S_, .f32⟩
  | .hbm, ⟨26, _⟩ => ⟨S64x256, .f32⟩
  | .hbm, ⟨27, _⟩ => ⟨S64x256, .f32⟩
  | .hbm, ⟨28, _⟩ => ⟨S_, .i32⟩
  | .hbm, ⟨29, _⟩ => ⟨S64, .i32⟩
  | .hbm, ⟨30, _⟩ => ⟨S64, .i1⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S64, .i32⟩
  | .hbm, ⟨35, _⟩ => ⟨S64x1, .i32⟩
  | .hbm, ⟨36, _⟩ => ⟨S1, .i32⟩
  | .hbm, ⟨37, _⟩ => ⟨S_, .i32⟩
  | .hbm, ⟨38, _⟩ => ⟨S64x1, .i32⟩
  | .hbm, ⟨39, _⟩ => ⟨S64x1, .i1⟩
  | .hbm, ⟨40, _⟩ => ⟨S1x1, .i32⟩
  | .hbm, ⟨41, _⟩ => ⟨S64x1, .i32⟩
  | .hbm, ⟨42, _⟩ => ⟨S64x1, .i1⟩
  | .hbm, ⟨43, _⟩ => ⟨S64x1, .i1⟩
  | .hbm, ⟨44, _⟩ => ⟨S_, .i1⟩
  | .hbm, ⟨45, _⟩ => ⟨S64, .i1⟩
  | .hbm, ⟨46, _⟩ => ⟨S64x256, .f32⟩
  | .hbm, ⟨47, _⟩ => ⟨S64x256, .i1⟩
  | .hbm, ⟨48, _⟩ => ⟨S_, .f32⟩
  | .hbm, ⟨49, _⟩ => ⟨S64x256, .f32⟩
  | .hbm, ⟨50, _⟩ => ⟨S64x256, .f32⟩
  | .hbm, ⟨51, _⟩ => ⟨S1x64x256, .f32⟩
  | .hbm, ⟨52, _⟩ => ⟨S64x64x256, .f32⟩
  | .hbm, ⟨53, _⟩ => ⟨S64x1x256, .f32⟩
  | .hbm, ⟨54, _⟩ => ⟨S64x64x256, .f32⟩
  | .hbm, ⟨55, _⟩ => ⟨S64x64x512, .f32⟩
  | .hbm, ⟨56, _⟩ => ⟨S512x64x64, .f32⟩
  | .hbm, ⟨57, _⟩ => ⟨S1x512x64x64, .f32⟩
  | .hbm, ⟨58, _⟩ => ⟨S8x512x64x64, .f32⟩
  | _, _ => ⟨S8x64x64, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩

abbrev nD : Nat := 1
abbrev τ : Topo := Topo.v7x

variable {F : FTy → Type} [FloatOps F]
-- ==== Proof.Kernel.Program.lean ====
/-
  The kernel's body as a list of small steps.

  The body is, for each of the four row chunks `j`: fill chunk `j` of the scratch (two stores, each after a load of what it
  overwrites), then start eight copies of that chunk, one per output image; and at the end one wait per copy. Here each of
  those steps is one program with its indices as parameters, and the body is shown to be the steps run in order.
-/
module

public import proofs.«01_k».proof.Proof.Gen.Kernel.Launch
public import proofs.«01_k».proof.Proof.Gen.Kernel.Skeleton
public import proofs.«01_k».proof.Proof.Gen.Kernel.Points

@[expose] public section

set_option maxRecDepth 65536

noncomputable section

namespace Cert.Kernel.Pos

open Cert.Kernel Cert.Kernel.Gen
open Idealize.ShloMosaic Idealize.SL.Sem

variable {F : FTy → Type} [FloatOps F]

/-! ## The values stored -/

/-- Row numbers and lane numbers of a (1024, 64) matrix. -/
abbrev rows : IVec S1024x64 32 := iota .tc S1024x64 32 [0] iota_S1024x64_d0_w32
abbrev lanes : IVec S1024x64 32 := iota .tc S1024x64 32 [1] iota_S1024x64_d1_w32

/-- The left half of every chunk: the column selection matrix times the column embedding. -/
def payX (v : Vec F S64x256 .f32) : FVec F S1024x256 .f32 := k0_pay4 k0_pay1 v

/-- The right half of chunk `j`: its row selection matrix times the row embedding. -/
def payY (j : Fin 4) (v : Vec F S64x256 .f32) : FVec F S1024x256 .f32 :=
  match j with
  | 0 => k0_pay5 lanes k0_pay2 k0_pay3 v
  | 1 => k0_pay9 (k0_pay6 rows lanes) v
  | 2 => k0_pay12 (k0_pay10 rows lanes) v
  | 3 => k0_pay14 rows lanes v

/-! ## The rectangles -/

theorem inbLeft (j : Fin 4) : ∀ a, (![1024 * (j : ℕ), 0] : Fin 2 → ℕ) a + S1024x256.size a ≤ S4096x512.size a := by
  fin_cases j <;> decide
theorem inbRight (j : Fin 4) : ∀ a, (![1024 * (j : ℕ), 256] : Fin 2 → ℕ) a + S1024x256.size a ≤ S4096x512.size a := by
  fin_cases j <;> decide
theorem inbChunk (j : Fin 4) : ∀ a, (![1024 * (j : ℕ), 0] : Fin 2 → ℕ) a + S1024x512.size a ≤ S4096x512.size a := by
  fin_cases j <;> decide
theorem inbOut (i : Fin 8) (j : Fin 4) :
    ∀ a, (![(i : ℕ), 1024 * (j : ℕ), 0] : Fin 3 → ℕ) a + S1x1024x512.size a ≤ S8x4096x512.size a := by
  fin_cases i <;> fin_cases j <;> decide
theorem inbSem (i : Fin 8) (j : Fin 4) : ∀ a, (![(i : ℕ), (j : ℕ)] : Fin 2 → ℕ) a + S1x1.size a ≤ S8x4.size a := by
  fin_cases i <;> fin_cases j <;> decide

/-- Left half, right half and whole of chunk `j` of the scratch. -/
abbrev rLeft (j : Fin 4) : Rect S4096x512 := Rect.unit (s := S4096x512) ![1024 * (j : ℕ), 0] S1024x256.size (inbLeft j)
abbrev rRight (j : Fin 4) : Rect S4096x512 := Rect.unit (s := S4096x512) ![1024 * (j : ℕ), 256] S1024x256.size (inbRight j)
abbrev rChunk (j : Fin 4) : Rect S4096x512 := Rect.unit (s := S4096x512) ![1024 * (j : ℕ), 0] S1024x512.size (inbChunk j)
/-- The window of image `i` that chunk `j` goes to, in the output seen with its two image axes as one. -/
abbrev rOut (i : Fin 8) (j : Fin 4) : Rect S8x4096x512 :=
  Rect.unit (s := S8x4096x512) ![(i : ℕ), 1024 * (j : ℕ), 0] S1x1024x512.size (inbOut i j)
abbrev rSem (i : Fin 8) (j : Fin 4) : Rect S8x4 := Rect.unit (s := S8x4) ![(i : ℕ), (j : ℕ)] S1x1.size (inbSem i j)
abbrev rEmbed : Rect S64x256 := Rect.unit (s := S64x256) ![0, 0] S64x256.size inb_S64x256_S64x256_0_0

/-! ## The steps -/

abbrev src (arg3 : Memref sig .tc .vmem S4096x512 .f32) (j : Fin 4) : Memref sig .tc .vmem S1024x512 .f32 :=
  arg3.slice (rChunk j) (fun _ => rfl)
abbrev dst (arg2 : Memref sig .tc .hbm S8x64x64x512 .f32) (harg2 : arg2.IsWhole) (i : Fin 8) (j : Fin 4) :
    Memref sig .tc .hbm S1024x512 .f32 :=
  ((arg2.reshape S8x4096x512 reshapes_S8x64x64x512_S8x4096x512.1 reshapes_S8x64x64x512_S8x4096x512.2 harg2.contiguous).slice
    (rOut i j) (fun _ => rfl)).squeeze S1024x512 squeezes_S1x1024x512_S1024x512
abbrev semOf (arg4 : DmaSems sig S8x4) (i : Fin 8) (j : Fin 4) : DmaSem sig :=
  ((arg4.slice (rSem i j)).squeeze S_ squeezes_S1x1_S_).sem

/-- Fill chunk `j` of the scratch. -/
def fill (arg0 arg1 : Memref sig .tc .vmem S64x256 .f32) (arg3 : Memref sig .tc .vmem S4096x512 .f32) (j : Fin 4) :
    Prog (TpuEff nD τ sig (Elt F) Λ₀ .tc) PUnit := do
  let v : Vec F S64x256 .f32 ← Prog.lift (.load arg1 rEmbed.toLoadRect (View.loadsAt_vmem h_S64x256))
  let _ : Vec F S1024x256 .f32 ← Prog.lift (.load arg3 (rLeft j).toLoadRect (View.loadsAt_vmem h_S1024x256))
  Prog.lift (.store arg3 (rLeft j) (payX v) Finset.univ (View.stores_vmem_bits_univ h_S1024x256 rfl) (.inl rfl))
  let w : Vec F S64x256 .f32 ← Prog.lift (.load arg0 rEmbed.toLoadRect (View.loadsAt_vmem h_S64x256))
  let _ : Vec F S1024x256 .f32 ← Prog.lift (.load arg3 (rRight j).toLoadRect (View.loadsAt_vmem h_S1024x256))
  Prog.lift (.store arg3 (rRight j) (payY j w) Finset.univ (View.stores_vmem_bits_univ h_S1024x256 rfl) (.inl rfl))

/-- Start the copy of chunk `j` to image `i`. -/
def issue (arg2 : Memref sig .tc .hbm S8x64x64x512 .f32) (harg2 : arg2.IsWhole) (arg3 : Memref sig .tc .vmem S4096x512 .f32)
    (arg4 : DmaSems sig S8x4) (i : Fin 8) (j : Fin 4) : Prog (TpuEff nD τ sig (Elt F) Λ₀ .tc) PUnit :=
  Prog.lift (.enqueueDma (src arg3 j) (.here (dst arg2 harg2 i j)) (.dma (semOf arg4 i j)) (View.wordExact_bits rfl)
    ((View.wordExact_bits rfl).reshape _ _) ⟨Or.inl rfl, trivial⟩)

/-- Wait for the copy of chunk `j` to image `i`. -/
def await (arg2 : Memref sig .tc .hbm S8x64x64x512 .f32) (harg2 : arg2.IsWhole) (arg3 : Memref sig .tc .vmem S4096x512 .f32)
    (arg4 : DmaSems sig S8x4) (i : Fin 8) (j : Fin 4) : Prog (TpuEff nD τ sig (Elt F) Λ₀ .tc) PUnit :=
  Prog.lift (.waitDma2 (semOf arg4 i j) (src arg3 j) (dst arg2 harg2 i j) (View.wordExact_bits rfl)
    ((View.wordExact_bits rfl).reshape _ _))

abbrev images : List (Fin 8) := [0, 1, 2, 3, 4, 5, 6, 7]
abbrev chunks : List (Fin 4) := [0, 1, 2, 3]

/-- The steps in order: per chunk the fill then the eight copies' starts, then all the waits, image by image. -/
def steps (arg0 arg1 : Memref sig .tc .vmem S64x256 .f32) (arg2 : Memref sig .tc .hbm S8x64x64x512 .f32) (harg2 : arg2.IsWhole)
    (arg3 : Memref sig .tc .vmem S4096x512 .f32) (arg4 : DmaSems sig S8x4) : List (Prog (TpuEff nD τ sig (Elt F) Λ₀ .tc) PUnit) :=
  [ fill arg0 arg1 arg3 0, Pipeline.chain (images.map fun i => issue arg2 harg2 arg3 arg4 i 0),
    fill arg0 arg1 arg3 1, Pipeline.chain (images.map fun i => issue arg2 harg2 arg3 arg4 i 1),
    fill arg0 arg1 arg3 2, Pipeline.chain (images.map fun i => issue arg2 harg2 arg3 arg4 i 2),
    fill arg0 arg1 arg3 3, Pipeline.chain (images.map fun i => issue arg2 harg2 arg3 arg4 i 3),
    Pipeline.chain (images.map fun i => Pipeline.chain (chunks.map fun j => await arg2 harg2 arg3 arg4 i j)) ]

/-- The body is its steps run in order. -/
theorem body_eq_steps (arg0 : Memref sig .tc .vmem S64x256 .f32) (harg0 : arg0.IsWhole) (arg1 : Memref sig .tc .vmem S64x256 .f32)
    (harg1 : arg1.IsWhole) (arg2 : Memref sig .tc .hbm S8x64x64x512 .f32) (harg2 : arg2.IsWhole)
    (arg3 : Memref sig .tc .vmem S4096x512 .f32) (harg3 : arg3.IsWhole) (arg4 : DmaSems sig S8x4) :
    cc0__pos_kernel (F := F) arg0 harg0 arg1 harg1 arg2 harg2 arg3 harg3 arg4
      = Pipeline.chain (steps arg0 arg1 arg2 harg2 arg3 arg4) := by
  rw [cc0__pos_kernel_eq_skeleton]
  rfl

end Cert.Kernel.Pos

end
-- ==== Proof.Kernel.Contents.lean ====
/-
  What the scratch and the output hold.

  `scr u v` is the whole scratch once every chunk is filled from the row embedding `u` and the column embedding `v`: row
  `1024 j + r` holds, in its first 256 lanes, row `r` of the left payload, and in its last 256 lanes row `r` of chunk `j`'s right
  payload. `image u v` is the output: every image is the scratch with its rows cut into 64 rows of 64. The facts below say that
  each store's rectangle reads its payload in `scr`, and that a copy's window of `image` reads the chunk of `scr` it copies.
-/
module

public import proofs.«01_k».proof.Proof.Kernel.Program
public import Idealize.ShloMosaic.Lib.ValueIdxCore

@[expose] public section

set_option maxRecDepth 16384

noncomputable section

namespace Cert.Kernel.Pos

open Cert.Kernel Cert.Kernel.Gen
open Idealize.ShloMosaic Idealize.ShloMosaic.ValueIdx

variable {F : FTy → Type} [FloatOps F]

/-- The filled scratch. -/
def scr (u v : Vec F S64x256 .f32) : Vec F S4096x512 .f32 := fun p =>
  if h : (p 1).val < 256 then payX v (ix2 ⟨(p 0).val % 1024, Nat.mod_lt _ (by decide)⟩ ⟨(p 1).val, h⟩)
  else payY ⟨(p 0).val / 1024, by have : (p 0).val < 4096 := (p 0).isLt; omega⟩ u
    (ix2 ⟨(p 0).val % 1024, Nat.mod_lt _ (by decide)⟩ ⟨(p 1).val - 256, by have : (p 1).val < 512 := (p 1).isLt; omega⟩)

/-- The output: image `b`, row `y`, column `x` is row `64 y + x` of the scratch. -/
def image (u v : Vec F S64x256 .f32) : Vec F S8x64x64x512 .f32 := fun p =>
  scr u v (ix2 ⟨64 * (p 1).val + (p 2).val, by
    have : (p 1).val < 64 := (p 1).isLt
    have : (p 2).val < 64 := (p 2).isLt
    omega⟩ (p 3))

theorem emb_embed (x : S64x256.Idx) : rEmbed.emb x = x := by
  funext a
  apply Fin.ext
  rw [Rect.emb_apply]
  fin_cases a <;> simp [rEmbed]

/-- The left rectangle of chunk `j` reads the left payload. -/
theorem scr_left (u v : Vec F S64x256 .f32) (j : Fin 4) (x : S1024x256.Idx) : scr u v ((rLeft j).emb x) = payX v x := by
  obtain ⟨r, k, rfl⟩ : ∃ (r : Fin 1024) (k : Fin 256), x = ix2 r k := ⟨_, _, eq_ix2 x⟩
  have h0 : ((rLeft j).emb (ix2 r k) 0).val = 1024 * j.val + r.val := by rw [Rect.emb_apply]; simp [rLeft]
  have h1 : ((rLeft j).emb (ix2 r k) 1).val = k.val := by rw [Rect.emb_apply]; simp [rLeft]
  have hj := j.isLt; have hr := r.isLt; have hk := k.isLt
  unfold scr
  rw [dif_pos (by rw [h1]; exact hk)]
  congr 1
  simp only [h0, h1]
  congr 1
  · apply Fin.ext; show (1024 * j.val + r.val) % 1024 = r.val; omega

/-- The right rectangle of chunk `j` reads chunk `j`'s right payload. -/
theorem scr_right (u v : Vec F S64x256 .f32) (j : Fin 4) (x : S1024x256.Idx) : scr u v ((rRight j).emb x) = payY j u x := by
  obtain ⟨r, k, rfl⟩ : ∃ (r : Fin 1024) (k : Fin 256), x = ix2 r k := ⟨_, _, eq_ix2 x⟩
  have h0 : ((rRight j).emb (ix2 r k) 0).val = 1024 * j.val + r.val := by rw [Rect.emb_apply]; simp [rRight]
  have h1 : ((rRight j).emb (ix2 r k) 1).val = 256 + k.val := by rw [Rect.emb_apply]; simp [rRight]
  have hj := j.isLt; have hr := r.isLt; have hk := k.isLt
  unfold scr
  rw [dif_neg (by rw [h1]; omega)]
  simp only [h0, h1]
  have e0 : (1024 * j.val + r.val) / 1024 = j.val := by omega
  have e1 : (1024 * j.val + r.val) % 1024 = r.val := by omega
  have e2 : 256 + k.val - 256 = k.val := by omega
  simp only [e0, e1, e2]

/-- An element of chunk `j` lies in its left rectangle or in its right one. -/
theorem chunk_cases (j : Fin 4) {p : S4096x512.Idx} (h : p ∈ (rChunk j).set) : p ∈ (rLeft j).set ∨ p ∈ (rRight j).set := by
  have h := Rect.mem_set_unit.mp h
  have h0 : 1024 * j.val ≤ (p 0).val ∧ (p 0).val < 1024 * j.val + 1024 := h 0
  have h1 : 0 ≤ (p 1).val ∧ (p 1).val < 0 + 512 := h 1
  by_cases hk : (p 1).val < 256
  · left
    refine Rect.mem_set_unit.mpr (Fin.forall_fin_two.mpr ⟨h0, ?_⟩)
    show 0 ≤ (p 1).val ∧ (p 1).val < 0 + 256
    omega
  · right
    refine Rect.mem_set_unit.mpr (Fin.forall_fin_two.mpr ⟨h0, ?_⟩)
    show 256 ≤ (p 1).val ∧ (p 1).val < 256 + 256
    omega

theorem left_sub_chunk (j : Fin 4) : (rLeft j).set ⊆ (rChunk j).set := fun p h => by
  have h := Rect.mem_set_unit.mp h
  have h0 : 1024 * j.val ≤ (p 0).val ∧ (p 0).val < 1024 * j.val + 1024 := h 0
  have h1 : 0 ≤ (p 1).val ∧ (p 1).val < 0 + 256 := h 1
  refine Rect.mem_set_unit.mpr (Fin.forall_fin_two.mpr ⟨h0, ?_⟩)
  show 0 ≤ (p 1).val ∧ (p 1).val < 0 + 512
  omega

theorem right_sub_chunk (j : Fin 4) : (rRight j).set ⊆ (rChunk j).set := fun p h => by
  have h := Rect.mem_set_unit.mp h
  have h0 : 1024 * j.val ≤ (p 0).val ∧ (p 0).val < 1024 * j.val + 1024 := h 0
  have h1 : 256 ≤ (p 1).val ∧ (p 1).val < 256 + 256 := h 1
  refine Rect.mem_set_unit.mpr (Fin.forall_fin_two.mpr ⟨h0, ?_⟩)
  show 0 ≤ (p 1).val ∧ (p 1).val < 0 + 512
  omega

theorem chunk_disjoint {j j' : Fin 4} (h : j ≠ j') : Disjoint (rChunk j).set (rChunk j').set :=
  Rect.unit_disjoint 0 (by
    show 1024 * j.val + 1024 ≤ 1024 * j'.val ∨ 1024 * j'.val + 1024 ≤ 1024 * j.val
    have : j.val ≠ j'.val := fun e => h (Fin.ext e)
    omega)

theorem left_right_disjoint (j : Fin 4) : Disjoint (rLeft j).set (rRight j).set :=
  Rect.unit_disjoint 1 (Or.inl (by show 0 + 256 ≤ 256; omega))

/-- Every row of the scratch is in one of the four chunks. -/
theorem in_chunk (p : S4096x512.Idx) : ∃ j, p ∈ (rChunk j).set := by
  have h0 : (p 0).val < 4096 := (p 0).isLt
  have h1 : (p 1).val < 512 := (p 1).isLt
  refine ⟨⟨(p 0).val / 1024, by omega⟩, Rect.mem_set_unit.mpr (Fin.forall_fin_two.mpr ⟨?_, ?_⟩)⟩
  · show 1024 * ((p 0).val / 1024) ≤ (p 0).val ∧ (p 0).val < 1024 * ((p 0).val / 1024) + 1024
    omega
  · show 0 ≤ (p 1).val ∧ (p 1).val < 0 + 512
    omega

/-! ## The copies' windows of the output -/

/-- The output, whole. -/
abbrev outM : Memref sig .tc .hbm S8x64x64x512 .f32 := Memref.whole main_v0
/-- The scratch, whole. -/
abbrev scrM : Memref sig .tc .vmem S4096x512 .f32 := Memref.whole cc0_scratch0
abbrev outW (i : Fin 8) (j : Fin 4) : Memref sig .tc .hbm S1024x512 .f32 := dst outM (Memref.isWhole_whole _) i j

/-- Row `r` of the window of image `i` and chunk `j` is row `(1024 j + r) / 64`, column `r mod 64` of image `i`. -/
theorem outW_emb (i : Fin 8) (j : Fin 4) (r : Fin 1024) (k : Fin 512) :
    (outW i j).view.emb (ix2 r k)
      = (ix4 i ⟨(1024 * j.val + r.val) / 64, by omega⟩ ⟨(1024 * j.val + r.val) % 64, Nat.mod_lt _ (by decide)⟩ k : S8x64x64x512.Idx) := by
  show Shape.reshapeEquiv _ ((rOut i j).emb (Shape.reshapeEquiv _ (ix2 r k))) = _
  have e1 : (Shape.reshapeEquiv squeezes_S1x1024x512_S1024x512.numel_eq (ix2 r k : S1024x512.Idx) : S1x1024x512.Idx) = ix3 0 r k :=
    Shape.reshapeEquiv_eq_of_rowMajor _ (by
      rw [Shape.rowMajor_val_three, Shape.rowMajor_val_two]
      show (0 * 1024 + r.val) * 512 + k.val = r.val * 512 + k.val
      omega)
  have e2 : (rOut i j).emb (ix3 0 r k : S1x1024x512.Idx) = (ix3 i ⟨1024 * j.val + r.val, by omega⟩ k : S8x4096x512.Idx) := by
    funext a
    apply Fin.ext
    rw [Rect.emb_apply]
    fin_cases a <;> simp [rOut]
  refine Shape.reshapeEquiv_eq_of_rowMajor _ ?_
  rw [show Shape.reshapeEquiv _ (ix2 r k : S1024x512.Idx) = (ix3 0 r k : S1x1024x512.Idx) from e1, e2,
    Shape.rowMajor_val_three, Shape.rowMajor_val_four]
  show ((i.val * 64 + (1024 * j.val + r.val) / 64) * 64 + (1024 * j.val + r.val) % 64) * 512 + k.val
    = (i.val * 4096 + (1024 * j.val + r.val)) * 512 + k.val
  omega

theorem srcM_emb (j : Fin 4) (r : Fin 1024) (k : Fin 512) :
    (src scrM j).view.emb (ix2 r k) = (ix2 ⟨1024 * j.val + r.val, by omega⟩ k : S4096x512.Idx) := by
  show (rChunk j).emb (ix2 r k) = _
  funext a
  apply Fin.ext
  rw [Rect.emb_apply]
  fin_cases a <;> simp [rChunk]

/-- A copy's window of `image` reads the chunk of `scr` it copies. -/
theorem image_window (u v : Vec F S64x256 .f32) (i : Fin 8) (j : Fin 4) (x : S1024x512.Idx) :
    image u v ((outW i j).view.emb x) = scr u v ((src scrM j).view.emb x) := by
  obtain ⟨r, k, rfl⟩ : ∃ (r : Fin 1024) (k : Fin 512), x = ix2 r k := ⟨_, _, eq_ix2 x⟩
  rw [outW_emb, srcM_emb]
  unfold image
  congr 2
  apply Fin.ext
  show 64 * ((1024 * j.val + r.val) / 64) + (1024 * j.val + r.val) % 64 = 1024 * j.val + r.val
  omega

/-- An element of the output lies in the window of image `i` and chunk `j` exactly when it is of image `i` and of one of the
    sixteen rows of chunk `j`. -/
theorem mem_outW (i : Fin 8) (j : Fin 4) (p : S8x64x64x512.Idx) :
    p ∈ (outW i j).view.set ↔ (p 0).val = i.val ∧ (p 1).val / 16 = j.val := by
  have hp0 : (p 0).val < 8 := (p 0).isLt
  have hp1 : (p 1).val < 64 := (p 1).isLt
  have hp2 : (p 2).val < 64 := (p 2).isLt
  constructor
  · intro h
    obtain ⟨x, -, rfl⟩ := Finset.mem_map.mp h
    obtain ⟨r, k, rfl⟩ : ∃ (r : Fin 1024) (k : Fin 512), x = ix2 r k := ⟨_, _, eq_ix2 x⟩
    rw [outW_emb]
    refine ⟨rfl, ?_⟩
    show (1024 * j.val + r.val) / 64 / 16 = j.val
    omega
  · rintro ⟨h0, h1⟩
    refine Finset.mem_map.mpr ⟨ix2 ⟨64 * ((p 1).val % 16) + (p 2).val, by omega⟩ (p 3), Finset.mem_univ _, ?_⟩
    refine (outW_emb i j _ (p 3)).trans ((eq_ix4 p).trans ?_).symm
    symm
    congr 1 <;> apply Fin.ext
    · exact h0.symm
    · show (1024 * j.val + (64 * ((p 1).val % 16) + (p 2).val)) / 64 = (p 1).val
      omega
    · show (1024 * j.val + (64 * ((p 1).val % 16) + (p 2).val)) % 64 = (p 2).val
      omega

theorem outW_disjoint {a a' : Fin 8 × Fin 4} (h : a ≠ a') : Disjoint (outW a.1 a.2).view.set (outW a'.1 a'.2).view.set := by
  rw [Finset.disjoint_left]
  intro p hp hp'
  have e := (mem_outW a.1 a.2 p).mp hp
  have e' := (mem_outW a'.1 a'.2 p).mp hp'
  exact h (Prod.ext (Fin.ext (e.1.symm.trans e'.1)) (Fin.ext (e.2.symm.trans e'.2)))

/-- Every element of the output is in one of the copies' windows. -/
theorem in_window (p : S8x64x64x512.Idx) : ∃ a : Fin 8 × Fin 4, p ∈ (outW a.1 a.2).view.set := by
  have hp1 : (p 1).val < 64 := (p 1).isLt
  exact ⟨(p 0, ⟨(p 1).val / 16, by omega⟩), (mem_outW _ _ p).mpr ⟨rfl, rfl⟩⟩

end Cert.Kernel.Pos

end
-- ==== Proof.Kernel.Steps.lean ====
/-
  What each step does, as a triple.

  A fill takes its chunk of the scratch at any contents and leaves it at `scr`. Starting a copy takes a read share of the chunk,
  the copy's window of the output and the copy's semaphore at zero, and gives the copy in flight; a wait takes the copy in flight
  and gives the three back, the window at `image`. `wp_chain` runs a list of steps with separate resources.
-/
module

public import proofs.«01_k».proof.Proof.Kernel.Contents
public import Idealize.ShloMosaic.Lib.Pipeline.FrameBody
public import Idealize.ShloMosaic.Lib.Tactic

@[expose] public section

set_option maxRecDepth 16384

noncomputable section

namespace Cert.Kernel.Pos

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Running a list of steps -/

/-- Steps with separate resources, each keeping a common one, run in order. -/
theorem wp_chain {T : Type} [DecidableEq T] (c : Dev nD) (p : T → Prog (TpuEff nD τ sig (Elt F) Λ₀ .tc) PUnit) (I : sProp 𝕄)
    (P Q : T → sProp 𝕄)
    (h : ∀ t, iprop(I ∗ P t) ⊢ wp frame (wpE (defs₀ (F := F)) Variants.none (c : Thread nD τ) none) Set.univ (p t) (fun _ => iprop(I ∗ Q t)))
    (l : List T) (hl : l.Nodup) :
    iprop(I ∗ bigSep l.toFinset P)
      ⊢ wp frame (wpE (defs₀ (F := F)) Variants.none (c : Thread nD τ) none) Set.univ (Pipeline.chain (l.map p))
          (fun _ => iprop(I ∗ bigSep l.toFinset Q)) := by
  induction l with
  | nil =>
    simp only [List.map_nil, Pipeline.chain_nil, List.toFinset_nil, bigSep_empty]
    exact le_wp_ret _ _ _ PUnit.unit (fun _ => iprop(I ∗ emp))
  | cons t l ih =>
    have ht : t ∉ l.toFinset := fun h => (List.nodup_cons.mp hl).1 (List.mem_toFinset.mp h)
    rw [List.map_cons, Pipeline.chain_cons, wp_bind, List.toFinset_cons,
      show bigSep (insert t l.toFinset) P = iprop(P t ∗ bigSep l.toFinset P) from bigSep_insert ht,
      show bigSep (insert t l.toFinset) Q = iprop(Q t ∗ bigSep l.toFinset Q) from bigSep_insert ht]
    have step : iprop(iprop(I ∗ P t) ∗ bigSep l.toFinset P)
        ⊢ wp frame (wpE (defs₀ (F := F)) Variants.none (c : Thread nD τ) none) Set.univ (p t)
            (fun _ => iprop(iprop(I ∗ Q t) ∗ bigSep l.toFinset P)) :=
      (sep_mono_left (h t)).trans (wp_frame_r _ _ _)
    have rest : iprop(Q t ∗ iprop(I ∗ bigSep l.toFinset P))
        ⊢ wp frame (wpE (defs₀ (F := F)) Variants.none (c : Thread nD τ) none) Set.univ (Pipeline.chain (l.map p))
            (fun _ => iprop(Q t ∗ iprop(I ∗ bigSep l.toFinset Q))) :=
      (sep_mono_right (ih (List.nodup_cons.mp hl).2)).trans (wp_frame_l _ _ _)
    refine BIBase.Entails.trans ?_ (step.trans (wp_mono _ _ _ fun _ => ?_))
    · iintro ⟨HI, HP, HPs⟩
      isplitl [HI HP]
      · isplitl [HI] <;> iassumption
      iexact HPs
    · refine BIBase.Entails.trans ?_ (rest.trans (wp_mono _ _ _ fun _ => ?_))
      · iintro ⟨⟨HI, HQ⟩, HPs⟩
        isplitl [HQ]; · iexact HQ
        isplitl [HI] <;> iassumption
      · iintro ⟨HQ, HI, HQs⟩
        isplitl [HI]; · iexact HI
        isplitl [HQ] <;> iassumption

/-! ## A fill -/

attribute [local irreducible] payX payY scr image

theorem left_set (j : Fin 4) : (scrM.access (rLeft j)).set = (rLeft j).set := View.set_slice_whole cc0_scratch0 (rLeft j)
theorem right_set (j : Fin 4) : (scrM.access (rRight j)).set = (rRight j).set := View.set_slice_whole cc0_scratch0 (rRight j)
theorem left_acc_sub (j : Fin 4) : (scrM.access (rLeft j)).set ⊆ (rChunk j).set := by rw [left_set]; exact left_sub_chunk j
theorem right_acc_sub (j : Fin 4) : (scrM.access (rRight j)).set ⊆ (rChunk j).set := by rw [right_set]; exact right_sub_chunk j

/-- The scratch after the two stores of chunk `j`. -/
def filled (u v : Vec F S64x256 .f32) (j : Fin 4) (f : Vec F S4096x512 .f32) : Vec F S4096x512 .f32 :=
  (scrM.access (rRight j)).write (Elt F) ((scrM.access (rLeft j)).write (Elt F) f (payX v) Finset.univ) (payY j u) Finset.univ

/-- The two stores make the chunk `scr`. -/
theorem filled_chunk (u v : Vec F S64x256 .f32) (j : Fin 4) (f : Vec F S4096x512 .f32) (p : S4096x512.Idx) (hp : p ∈ (rChunk j).set) :
    filled u v j f p = scr u v p := by
  unfold filled
  rcases chunk_cases j hp with h | h
  · have hR : p ∉ (scrM.access (rRight j)).setOn Finset.univ := by
      rw [View.setOn_univ, right_set]
      exact Finset.disjoint_left.mp (left_right_disjoint j) h
    rw [View.write_of_not_mem _ _ _ hR]
    obtain ⟨x, hx⟩ := (rLeft j).exists_idx_of_mem h
    have hx' : (scrM.access (rLeft j)).emb x = p := hx
    rw [← hx', View.write_emb_of_mem _ _ (Finset.mem_univ x), cast_eq, hx', ← hx]
    exact (scr_left u v j x).symm
  · obtain ⟨x, hx⟩ := (rRight j).exists_idx_of_mem h
    have hx' : (scrM.access (rRight j)).emb x = p := hx
    rw [← hx', View.write_emb_of_mem _ _ (Finset.mem_univ x), cast_eq, hx', ← hx]
    exact (scr_right u v j x).symm

set_option backward.isDefEq.respectTransparency false in
/-- A fill: the embeddings stay, the chunk ends at `scr`. -/
theorem fill_spec (c : Dev nD) (a0 a1 : Memref sig .tc .vmem S64x256 .f32) (u v : Vec F S64x256 .f32) (j : Fin 4)
    (f : Buf (Elt F) ((c : Thread nD τ).loc cc0_scratch0)) :
    (iprop(owns (c : Thread nD τ) a0 fullShare u ∗ owns (c : Thread nD τ) a1 fullShare v
        ∗ (((c : Thread nD τ).loc cc0_scratch0) ↦[(rChunk j).set]{fullShare} f)) : sProp 𝕄)
      ⊢ wp frame (wpE (defs₀ (F := F)) Variants.none (c : Thread nD τ) none) Set.univ (fill a0 a1 scrM j)
          (fun _ => iprop(owns (c : Thread nD τ) a0 fullShare u ∗ owns (c : Thread nD τ) a1 fullShare v
            ∗ (((c : Thread nD τ).loc cc0_scratch0) ↦[(rChunk j).set]{fullShare} scr u v))) := by
  unfold owns fill
  iintro ⟨⟨%f0, %h0, H0⟩, ⟨%f1, %h1, H1⟩, HS⟩
  have e0 : (a0.access rEmbed).read (Elt F) f0 = u := by
    rw [← h0]; funext x; exact congrArg (a0.view.read (Elt F) f0) (emb_embed x)
  have e1 : (a1.access rEmbed).read (Elt F) f1 = v := by
    rw [← h1]; funext x; exact congrArg (a1.view.read (Elt F) f1) (emb_embed x)
  iapply (wp_load_rect (m := a1) (r := rEmbed) Variants.none (c : Thread nD τ) none Set.univ (View.set_slice_subset a1.view rEmbed)) $$ H1
  iintro H1
  rw [e1]
  iapply (wp_load_rect (m := scrM) (r := rLeft j) Variants.none (c : Thread nD τ) none Set.univ (S := (rChunk j).set)
    (left_acc_sub j)) $$ HS
  iintro HS
  iapply (wp_store (m := scrM) (r := rLeft j) Variants.none (c : Thread nD τ) none Set.univ (S := (rChunk j).set)
    (left_acc_sub j)) $$ HS
  iintro HS
  iapply (wp_load_rect (m := a0) (r := rEmbed) Variants.none (c : Thread nD τ) none Set.univ (View.set_slice_subset a0.view rEmbed)) $$ H0
  iintro H0
  rw [e0]
  iapply (wp_load_rect (m := scrM) (r := rRight j) Variants.none (c : Thread nD τ) none Set.univ (S := (rChunk j).set)
    (right_acc_sub j)) $$ HS
  iintro HS
  iapply (wp_store (m := scrM) (r := rRight j) Variants.none (c : Thread nD τ) none Set.univ (S := (rChunk j).set)
    (right_acc_sub j)) $$ HS
  iintro HS
  sl_step
  isplitl [H0]
  · iexists f0; isplitr; · ipureintro; exact h0
    iexact H0
  isplitl [H1]
  · iexists f1; isplitr; · ipureintro; exact h1
    iexact H1
  rw [show (((c : Thread nD τ).loc cc0_scratch0) ↦[(rChunk j).set]{fullShare} scr u v : sProp 𝕄)
      = (((c : Thread nD τ).loc cc0_scratch0) ↦[(rChunk j).set]{fullShare} filled u v j f) from
    (pointsTo_congr (fun p hp => filled_chunk u v j f p hp)).symm]
  iexact HS

/-! ## A copy -/

/-- The counters' embedding of the proof's algebra. -/
abbrev EC : UEmb Counters 𝕄 := countersEmb (U := Pipeline.UD sig nD τ)

/-- The semaphore of the copy of chunk `j` to image `i`. -/
abbrev semIJ (i : Fin 8) (j : Fin 4) : DmaSem sig := semOf cc0_scratch1 i j

/-- Chunk `j` of the filled scratch, at the read share of image `i`'s copy. -/
def tokAt (c : Dev nD) (u v : Vec F S64x256 .f32) (i : Fin 8) (j : Fin 4) : sProp 𝕄 :=
  ((c : Thread nD τ).loc cc0_scratch0) ↦[(rChunk j).set]{Transfers.shareTok fullShare 8 i} scr u v
/-- The copy's window of the output, at contents `g`. -/
def winAt (c : Dev nD) (g : Vec F S8x64x64x512 .f32) (i : Fin 8) (j : Fin 4) : sProp 𝕄 :=
  ((c : Thread nD τ).loc main_v0) ↦[(outW i j).view.set]{fullShare} g
/-- The copy's semaphore at zero. -/
def cellAt (c : Dev nD) (i : Fin 8) (j : Fin 4) : sProp 𝕄 := semVal ((c : Thread nD τ), SemLoc.dma (semIJ i j)) 0
/-- The copy in flight: it delivers its window at `image` and gives the read share back. -/
def flightAt (c : Dev nD) (u v : Vec F S64x256 .f32) (i : Fin 8) (j : Fin 4) : sProp 𝕄 :=
  Transfers.Flight (EC (F := F)) (c : Thread nD τ) (SemLoc.dma (semIJ i j)) () (outW i j).view.dmaCredit
    iprop(winAt c (image u v) i j ∗ tokAt c u v i j)

theorem src_set (j : Fin 4) : (src scrM j).view.set = (rChunk j).set := View.set_slice_whole cc0_scratch0 (rChunk j)

/-- What a copy writes over its window is `image`. -/
theorem copied_window (u v : Vec F S64x256 .f32) (i : Fin 8) (j : Fin 4) (g : Vec F S8x64x64x512 .f32) (p : S8x64x64x512.Idx)
    (hp : p ∈ (outW i j).view.set) :
    (outW i j).view.write (Elt F) g (ReadAs.same.apply ((src scrM j).view.read (Elt F) (scr u v))) Finset.univ p = image u v p := by
  obtain ⟨x, -, rfl⟩ := Finset.mem_map.mp hp
  rw [View.write_emb_of_mem _ _ (Finset.mem_univ x), cast_eq, image_window]
  rfl

/-- Starting a copy. -/
theorem issue_spec (c : Dev nD) (u v : Vec F S64x256 .f32) (g : Vec F S8x64x64x512 .f32) (i : Fin 8) (j : Fin 4) :
    iprop(⌜True⌝ ∗ iprop(tokAt c u v i j ∗ winAt c g i j ∗ cellAt c i j))
      ⊢ wp frame (wpE (defs₀ (F := F)) Variants.none (c : Thread nD τ) none) Set.univ
          (issue outM (Memref.isWhole_whole _) scrM cc0_scratch1 i j) (fun _ => iprop(⌜True⌝ ∗ flightAt c u v i j)) := by
  have hD : (((c : Thread nD τ).loc main_v0) ↦[(outW i j).view.set]{fullShare}
        ((outW i j).view.write (Elt F) g (ReadAs.same.apply ((src scrM j).view.read (Elt F) (scr u v))) Finset.univ) : sProp 𝕄)
      = winAt c (image u v) i j := pointsTo_congr fun p hp => copied_window u v i j g p hp
  have hT : (((c : Thread nD τ).loc cc0_scratch0) ↦[(src scrM j).view.set]{Transfers.shareTok fullShare 8 i} scr u v : sProp 𝕄)
      = tokAt c u v i j := by rw [src_set]; rfl
  unfold issue flightAt
  iintro ⟨-, HT, HW, HC⟩
  ihave HT := (show tokAt c u v i j ⊢ (((c : Thread nD τ).loc cc0_scratch0) ↦[(src scrM j).view.set]{Transfers.shareTok fullShare 8 i} scr u v : sProp 𝕄)
    from Eq.ge hT) $$ HT
  unfold winAt cellAt
  iapply (Transfers.wp_dmaLocal (EC (F := F)) Variants.none (c : Thread nD τ) none (via := ReadAs.same) (dst := outW i j)
    () (outW i j).view.dmaCredit rfl (View.dmaCredit_pos _ (Shape.numel_pos (by decide))) subset_rfl) $$ [HT HW HC]
  · isplitl [HT]; · iexact HT
    isplitl [HW]; · iexact HW
    iexact HC
  iintro HF
  sl_step
  isplitr; · ipureintro; trivial
  rw [show (((c : Thread nD τ).loc main_v0) ↦[(outW i j).view.set]{fullShare} image u v : sProp 𝕄) = _ from hD.symm, ← hT]
  iexact HF

/-- Waiting for a copy. -/
theorem await_spec (c : Dev nD) (u v : Vec F S64x256 .f32) (i : Fin 8) (j : Fin 4) :
    iprop(iprop(∃ W, owes (c : Thread nD τ) 0 W) ∗ flightAt c u v i j)
      ⊢ wp frame (wpE (defs₀ (F := F)) Variants.none (c : Thread nD τ) none) Set.univ
          (await outM (Memref.isWhole_whole _) scrM cc0_scratch1 i j)
          (fun _ => iprop(iprop(∃ W, owes (c : Thread nD τ) 0 W) ∗ iprop(winAt c (image u v) i j ∗ tokAt c u v i j ∗ cellAt c i j))) := by
  unfold await flightAt
  iintro ⟨⟨%W, HW⟩, HF⟩
  iapply (Transfers.wp_waitLocal (EC (F := F)) Variants.none (c : Thread nD τ) none () rfl) $$ [HF HW]
  · isplitl [HF] <;> iassumption
  iintro ⟨⟨HD, HT⟩, HC, HW⟩
  sl_step
  isplitl [HW]; · iexists _; iexact HW
  isplitl [HD]; · iexact HD
  isplitl [HT]; · iexact HT
  unfold cellAt
  iexact HC

end Cert.Kernel.Pos

end
-- ==== Proof.Kernel.Body.lean ====
/-
  The body of the kernel: the four fills and the thirty-two copies.

  It takes the two tables in their staging buffers, the scratch and the output at any contents, and the thirty-two semaphores at
  zero; it gives them all back, the scratch at `scr` and the output at `image`. The output is taken apart into the windows of the
  copies, each chunk of the scratch into one read share per image, and after the waits both are put together again.
-/
module

public import proofs.«01_k».proof.Proof.Kernel.Steps

@[expose] public section

set_option maxRecDepth 16384

noncomputable section

namespace Cert.Kernel.Pos

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Running a list of steps -/

/-- The running of one step from the resources of a core to those it leaves. -/
abbrev runs (c : Dev nD) (A : sProp 𝕄) (p : Prog (TpuEff nD τ sig (Elt F) Λ₀ .tc) PUnit) (B : sProp 𝕄) : Prop :=
  A ⊢ wp frame (wpE (defs₀ (F := F)) Variants.none (c : Thread nD τ) none) Set.univ p (fun _ => B)

/-- One step and then the others. -/
theorem runs_cons {c : Dev nD} {A B C : sProp 𝕄} {p : Prog (TpuEff nD τ sig (Elt F) Λ₀ .tc) PUnit}
    {ps : List (Prog (TpuEff nD τ sig (Elt F) Λ₀ .tc) PUnit)} (h : runs c A p B) (hs : runs c B (Pipeline.chain ps) C) :
    runs c A (Pipeline.chain (p :: ps)) C := by
  unfold runs
  rw [Pipeline.chain_cons, wp_bind]
  exact h.trans (wp_mono _ _ _ fun _ => hs)

/-- A step leaves alone what it does not take. -/
theorem runs_frame {c : Dev nD} {A B R : sProp 𝕄} {p : Prog (TpuEff nD τ sig (Elt F) Λ₀ .tc) PUnit} (h : runs c A p B) :
    runs c iprop(A ∗ R) p iprop(B ∗ R) := (sep_mono_left h).trans (wp_frame_r _ _ _)

theorem runs_conseq {c : Dev nD} {A A' B B' : sProp 𝕄} {p : Prog (TpuEff nD τ sig (Elt F) Λ₀ .tc) PUnit} (h : runs c A p B)
    (hA : A' ⊢ A) (hB : B ⊢ B') : runs c A' p B' := hA.trans (h.trans (wp_mono _ _ _ fun _ => hB))

variable (c : Dev nD) (a0 a1 : Memref sig .tc .vmem S64x256 .f32) (u v : Vec F S64x256 .f32) (g : Vec F S8x64x64x512 .f32)

/-- The two tables in their staging buffers. -/
def tables : sProp 𝕄 := iprop(owns (c : Thread nD τ) a0 fullShare u ∗ owns (c : Thread nD τ) a1 fullShare v)
/-- The windows and semaphores of the copies of one chunk. -/
def targets (j : Fin 4) : sProp 𝕄 := bigSep Finset.univ fun i : Fin 8 => iprop(winAt c g i j ∗ cellAt c i j)
/-- A chunk before its fill. -/
def emptyChunk (j : Fin 4) : sProp 𝕄 := iprop(∃ f : Buf (Elt F) ((c : Thread nD τ).loc cc0_scratch0), ((c : Thread nD τ).loc cc0_scratch0) ↦[(rChunk j).set]{fullShare} f)
/-- A chunk after its fill. -/
def fullChunk (j : Fin 4) : sProp 𝕄 := ((c : Thread nD τ).loc cc0_scratch0) ↦[(rChunk j).set]{fullShare} scr u v
/-- What is left of a chunk when its eight copies have their read shares. -/
def restChunk (j : Fin 4) : sProp 𝕄 := ((c : Thread nD τ).loc cc0_scratch0) ↦[(rChunk j).set]{Transfers.shareDrop fullShare 8} scr u v
/-- A chunk's copies in flight. -/
def flights (j : Fin 4) : sProp 𝕄 := bigSep Finset.univ fun i : Fin 8 => flightAt c u v i j

theorem images_toFinset : (images.toFinset : Finset (Fin 8)) = Finset.univ := by decide
theorem chunks_toFinset : (chunks.toFinset : Finset (Fin 4)) = Finset.univ := by decide

/-- A full chunk is its rest and the eight read shares. -/
theorem fullChunk_split (j : Fin 4) : fullChunk c u v j ⊢ iprop(restChunk c u v j ∗ bigSep Finset.univ fun i : Fin 8 => tokAt c u v i j) :=
  Transfers.pointsTo_toks_split fullShare 8
theorem fullChunk_join (j : Fin 4) : iprop(restChunk c u v j ∗ bigSep Finset.univ fun i : Fin 8 => tokAt c u v i j) ⊢ fullChunk c u v j :=
  Transfers.pointsTo_toks_join fullShare 8

/-- The eight starts of one chunk. -/
theorem fan_spec (j : Fin 4) :
    runs c iprop(fullChunk c u v j ∗ targets c g j)
      (Pipeline.chain (images.map fun i => issue outM (Memref.isWhole_whole _) scrM cc0_scratch1 i j))
      iprop(restChunk c u v j ∗ flights c u v j) := by
  have h := wp_chain c (fun i => issue outM (Memref.isWhole_whole _) scrM cc0_scratch1 i j) iprop(⌜True⌝)
    (fun i => iprop(tokAt c u v i j ∗ winAt c g i j ∗ cellAt c i j)) (fun i => flightAt c u v i j)
    (fun i => issue_spec c u v g i j) images (by decide)
  rw [images_toFinset] at h
  refine runs_conseq (runs_frame (R := restChunk c u v j) h) ?_ ?_
  · iintro ⟨HC, HT⟩
    ihave HC := (fullChunk_split c u v j) $$ HC
    icases HC with ⟨HR, HC⟩
    isplitr [HR]
    · isplitr; · ipureintro; trivial
      rw [bigSep_sep']
      unfold targets
      isplitl [HC]; · iexact HC
      iexact HT
    iexact HR
  · unfold flights
    iintro ⟨⟨-, HF⟩, HR⟩
    isplitl [HR]; · iexact HR
    iexact HF

/-- One chunk: its fill and its eight starts, then the others. -/
theorem stage_spec (j : Fin 4) (R C : sProp 𝕄) (ps : List (Prog (TpuEff nD τ sig (Elt F) Λ₀ .tc) PUnit))
    (hs : runs c iprop(tables c a0 a1 u v ∗ iprop(restChunk c u v j ∗ flights c u v j) ∗ R) (Pipeline.chain ps) C) :
    runs c iprop(tables c a0 a1 u v ∗ iprop(emptyChunk c j ∗ targets c g j) ∗ R)
      (Pipeline.chain (fill a0 a1 scrM j :: Pipeline.chain (images.map fun i => issue outM (Memref.isWhole_whole _) scrM cc0_scratch1 i j) :: ps)) C := by
  have hfill : runs c iprop(tables c a0 a1 u v ∗ emptyChunk c j) (fill a0 a1 scrM j) iprop(tables c a0 a1 u v ∗ fullChunk c u v j) := by
    unfold runs tables emptyChunk fullChunk
    iintro ⟨⟨H0, H1⟩, ⟨%f, HS⟩⟩
    iapply (runs_conseq (fill_spec c a0 a1 u v j f) .rfl (show _ ⊢ _ from by
      iintro ⟨H0, H1, HS⟩
      isplitl [H0 H1]
      · isplitl [H0] <;> iassumption
      iexact HS))
    isplitl [H0]; · iexact H0
    isplitl [H1]; · iexact H1
    iexact HS
  refine runs_cons (B := iprop(iprop(tables c a0 a1 u v ∗ fullChunk c u v j) ∗ iprop(targets c g j ∗ R)))
    (runs_conseq (runs_frame (R := iprop(targets c g j ∗ R)) hfill) ?_ .rfl)
    (runs_cons (runs_conseq (runs_frame (R := iprop(tables c a0 a1 u v ∗ R)) (fan_spec c u v g j)) ?_ ?_) hs)
  · iintro ⟨HT, ⟨HE, HG⟩, HR⟩
    isplitl [HT HE]
    · isplitl [HT] <;> iassumption
    isplitl [HG] <;> iassumption
  · iintro ⟨⟨HT, HE⟩, HG, HR⟩
    isplitl [HE HG]
    · isplitl [HE] <;> iassumption
    isplitl [HT] <;> iassumption
  · iintro ⟨⟨HE, HG⟩, HT, HR⟩
    isplitl [HT]; · iexact HT
    isplitl [HE HG]
    · isplitl [HE] <;> iassumption
    iexact HR

/-- What a wait gives back. -/
def landed (i : Fin 8) (j : Fin 4) : sProp 𝕄 := iprop(winAt c (image u v) i j ∗ tokAt c u v i j ∗ cellAt c i j)

/-- The thirty-two waits. -/
theorem drain_spec :
    runs c iprop(iprop(∃ W, owes (c : Thread nD τ) 0 W) ∗ bigSep Finset.univ fun i : Fin 8 => bigSep Finset.univ fun j : Fin 4 => flightAt c u v i j)
      (Pipeline.chain (images.map fun i => Pipeline.chain (chunks.map fun j => await outM (Memref.isWhole_whole _) scrM cc0_scratch1 i j)))
      iprop(iprop(∃ W, owes (c : Thread nD τ) 0 W) ∗ bigSep Finset.univ fun i : Fin 8 => bigSep Finset.univ fun j : Fin 4 => landed c u v i j) := by
  have h := wp_chain c (fun i => Pipeline.chain (chunks.map fun j => await outM (Memref.isWhole_whole _) scrM cc0_scratch1 i j))
    iprop(∃ W, owes (c : Thread nD τ) 0 W) (fun i => bigSep Finset.univ fun j : Fin 4 => flightAt c u v i j)
    (fun i => bigSep Finset.univ fun j : Fin 4 => landed c u v i j) (fun i => ?_) images (by decide)
  · rw [images_toFinset] at h; exact h
  · have h := wp_chain c (fun j => await outM (Memref.isWhole_whole _) scrM cc0_scratch1 i j)
      iprop(∃ W, owes (c : Thread nD τ) 0 W) (fun j => flightAt c u v i j) (fun j => landed c u v i j)
      (fun j => await_spec c u v i j) chunks (by decide)
    rw [chunks_toFinset] at h; exact h

/-- The four chunks one by one. -/
theorem bigSep_chunks (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A whole buffer is any disjoint parts that cover it. -/
theorem whole_parts {T : Type} [Fintype T] {ℓ : Loc nD τ sig} (K : T → Finset (Idx ℓ)) (hd : ∀ t t', t ≠ t' → Disjoint (K t) (K t'))
    (hc : ∀ p, ∃ t, p ∈ K t) (f : Buf (Elt F) ℓ) :
    (ℓ ↦{fullShare} f : sProp 𝕄) = bigSep Finset.univ fun t => ℓ ↦[K t]{fullShare} f := by
  have h : Finset.univ.biUnion K = (Finset.univ : Finset (Idx ℓ)) := by
    ext p
    simp only [Finset.mem_biUnion, Finset.mem_univ, true_and, iff_true]
    exact hc p
  rw [← pointsTo_biUnion Finset.univ K fun t _ t' _ => hd t t', h]

/-- The whole scratch is its chunks. -/
theorem scratch_chunks (f : Buf (Elt F) ((c : Thread nD τ).loc cc0_scratch0)) :
    (((c : Thread nD τ).loc cc0_scratch0) ↦{fullShare} f : sProp 𝕄)
      = bigSep Finset.univ fun j : Fin 4 => ((c : Thread nD τ).loc cc0_scratch0) ↦[(rChunk j).set]{fullShare} f :=
  whole_parts (ℓ := (c : Thread nD τ).loc cc0_scratch0) (fun j : Fin 4 => (rChunk j).set) (fun j j' h => chunk_disjoint h)
    (fun p => in_chunk p) f

/-- The whole output is the copies' windows. -/
theorem output_windows (g : Vec F S8x64x64x512 .f32) :
    (((c : Thread nD τ).loc main_v0) ↦{fullShare} g : sProp 𝕄)
      = bigSep Finset.univ fun i : Fin 8 => bigSep Finset.univ fun j : Fin 4 => winAt c g i j := by
  rw [← BI.bigSep_univ_prod (fun a : Fin 8 × Fin 4 => winAt c g a.1 a.2)]
  exact whole_parts (ℓ := (c : Thread nD τ).loc main_v0) (fun a : Fin 8 × Fin 4 => (outW a.1 a.2).view.set) (fun a a' h => outW_disjoint h)
    (fun p => in_window p) g

/-- The thirty-two semaphores at zero. -/
def cells : sProp 𝕄 := bigSep Finset.univ fun i : Fin 8 => bigSep Finset.univ fun j : Fin 4 => cellAt (F := F) c i j

/-- The body. -/
theorem body_spec (hw0 : a0.IsWhole) (hw1 : a1.IsWhole) :
    runs c iprop(tables c a0 a1 u v ∗ (∃ f : Buf (Elt F) ((c : Thread nD τ).loc cc0_scratch0), ((c : Thread nD τ).loc cc0_scratch0) ↦{fullShare} f)
        ∗ (((c : Thread nD τ).loc main_v0) ↦{fullShare} g) ∗ cells c ∗ (∃ W, owes (c : Thread nD τ) 0 W))
      (cc0__pos_kernel a0 hw0 a1 hw1 outM (Memref.isWhole_whole _) scrM (Memref.isWhole_whole _) cc0_scratch1)
      iprop(tables c a0 a1 u v ∗ (∃ f : Buf (Elt F) ((c : Thread nD τ).loc cc0_scratch0), ((c : Thread nD τ).loc cc0_scratch0) ↦{fullShare} f)
        ∗ (((c : Thread nD τ).loc main_v0) ↦{fullShare} image u v) ∗ cells c ∗ (∃ W, owes (c : Thread nD τ) 0 W)) := by
  rw [body_eq_steps]
  have hin : iprop((((c : Thread nD τ).loc main_v0) ↦{fullShare} g) ∗ cells c) ⊢ iprop(targets c g 0 ∗ targets c g 1 ∗ targets c g 2 ∗ targets c g 3) := by
    rw [output_windows, ← bigSep_chunks (fun j => targets c g j)]
    unfold targets cells
    rw [Idealize.SL.BI.bigSep_univ_comm (fun (j : Fin 4) (i : Fin 8) => iprop(winAt c g i j ∗ cellAt c i j))]
    simp only [bigSep_sep']
    exact .rfl
  have hfl : iprop(flights c u v 0 ∗ flights c u v 1 ∗ flights c u v 2 ∗ flights c u v 3)
      ⊢ bigSep Finset.univ fun i : Fin 8 => bigSep Finset.univ fun j : Fin 4 => flightAt c u v i j := by
    rw [← bigSep_chunks (fun j => flights c u v j)]
    unfold flights
    rw [Idealize.SL.BI.bigSep_univ_comm (fun (j : Fin 4) (i : Fin 8) => flightAt c u v i j)]
  have hout : iprop(iprop(restChunk c u v 0 ∗ restChunk c u v 1 ∗ restChunk c u v 2 ∗ restChunk c u v 3)
        ∗ bigSep Finset.univ fun i : Fin 8 => bigSep Finset.univ fun j : Fin 4 => landed c u v i j)
      ⊢ iprop((((c : Thread nD τ).loc cc0_scratch0) ↦{fullShare} scr u v) ∗ (((c : Thread nD τ).loc main_v0) ↦{fullShare} image u v) ∗ cells c) := by
    rw [← bigSep_chunks (fun j => restChunk c u v j), output_windows, scratch_chunks]
    unfold landed cells
    simp only [bigSep_sep']
    rw [Idealize.SL.BI.bigSep_univ_comm (fun (i : Fin 8) (j : Fin 4) => tokAt c u v i j)]
    iintro ⟨HR, HW, HT, HC⟩
    isplitl [HR HT]
    · iapply (show iprop((bigSep Finset.univ fun j : Fin 4 => restChunk c u v j)
          ∗ bigSep Finset.univ fun j : Fin 4 => bigSep Finset.univ fun i : Fin 8 => tokAt c u v i j) ⊢ _ from by
        rw [← bigSep_sep']
        exact bigSep_mono fun j _ => fullChunk_join c u v j)
      isplitl [HR] <;> iassumption
    isplitl [HW] <;> iassumption
  refine runs_conseq (stage_spec c a0 a1 u v g 0
      iprop(iprop(emptyChunk c 1 ∗ targets c g 1) ∗ iprop(emptyChunk c 2 ∗ targets c g 2) ∗ iprop(emptyChunk c 3 ∗ targets c g 3)
        ∗ (∃ W, owes (c : Thread nD τ) 0 W)) _ _ ?_) ?_ .rfl
  · refine runs_conseq (stage_spec c a0 a1 u v g 1
      iprop(iprop(restChunk c u v 0 ∗ flights c u v 0) ∗ iprop(emptyChunk c 2 ∗ targets c g 2) ∗ iprop(emptyChunk c 3 ∗ targets c g 3)
        ∗ (∃ W, owes (c : Thread nD τ) 0 W)) _ _ ?_) ?_ .rfl
    · refine runs_conseq (stage_spec c a0 a1 u v g 2
        iprop(iprop(restChunk c u v 0 ∗ flights c u v 0) ∗ iprop(restChunk c u v 1 ∗ flights c u v 1) ∗ iprop(emptyChunk c 3 ∗ targets c g 3)
          ∗ (∃ W, owes (c : Thread nD τ) 0 W)) _ _ ?_) ?_ .rfl
      · refine runs_conseq (stage_spec c a0 a1 u v g 3
          iprop(iprop(restChunk c u v 0 ∗ flights c u v 0) ∗ iprop(restChunk c u v 1 ∗ flights c u v 1) ∗ iprop(restChunk c u v 2 ∗ flights c u v 2)
            ∗ (∃ W, owes (c : Thread nD τ) 0 W)) _ _ ?_) ?_ .rfl
        · refine runs_cons (runs_conseq (runs_frame (R := iprop(tables c a0 a1 u v ∗ restChunk c u v 0 ∗ restChunk c u v 1 ∗ restChunk c u v 2 ∗ restChunk c u v 3))
            (drain_spec c u v)) ?_ .rfl) ?_
          · iintro ⟨HT, ⟨HR3, HF3⟩, ⟨HR0, HF0⟩, ⟨HR1, HF1⟩, ⟨HR2, HF2⟩, HW⟩
            isplitl [HW HF0 HF1 HF2 HF3]
            · isplitl [HW]; · iexact HW
              iapply hfl
              isplitl [HF0]; · iexact HF0
              isplitl [HF1]; · iexact HF1
              isplitl [HF2] <;> iassumption
            isplitl [HT]; · iexact HT
            isplitl [HR0]; · iexact HR0
            isplitl [HR1]; · iexact HR1
            isplitl [HR2] <;> iassumption
          · unfold runs
            rw [Pipeline.chain_nil]
            refine BIBase.Entails.trans ?_ (le_wp_ret _ _ _ PUnit.unit _)
            iintro ⟨⟨HW, HL⟩, HT, HR⟩
            isplitl [HT]; · iexact HT
            ihave HO := hout $$ [HL HR]
            · isplitl [HR]; · iexact HR
              iexact HL
            icases HO with ⟨HS, HO, HC⟩
            isplitl [HS]; · iexists _; iexact HS
            isplitl [HO]; · iexact HO
            isplitl [HC] <;> iassumption
        · iintro ⟨HT, H2, H0, H1, H3, HW⟩
          isplitl [HT]; · iexact HT
          isplitl [H3]; · iexact H3
          isplitl [H0]; · iexact H0
          isplitl [H1]; · iexact H1
          isplitl [H2] <;> iassumption
      · iintro ⟨HT, H1, H0, H2, H3, HW⟩
        isplitl [HT]; · iexact HT
        isplitl [H2]; · iexact H2
        isplitl [H0]; · iexact H0
        isplitl [H1]; · iexact H1
        isplitl [H3] <;> iassumption
    · iintro ⟨HT, H0, H1, H2, H3, HW⟩
      isplitl [HT]; · iexact HT
      isplitl [H1]; · iexact H1
      isplitl [H0]; · iexact H0
      isplitl [H2]; · iexact H2
      isplitl [H3] <;> iassumption
  · iintro ⟨HT, ⟨%f, HS⟩, HO, HC, HW⟩
    ihave HG := hin $$ [HO HC]
    · isplitl [HO] <;> iassumption
    icases HG with ⟨HG0, HG1, HG2, HG3⟩
    ihave HS := (Entails.of_eq ((scratch_chunks c f).trans (bigSep_chunks _))) $$ HS
    icases HS with ⟨HS0, HS1, HS2, HS3⟩
    isplitl [HT]; · iexact HT
    unfold emptyChunk
    isplitl [HS0 HG0]
    · isplitl [HS0]; · iexists f; iexact HS0
      iexact HG0
    isplitl [HS1 HG1]
    · isplitl [HS1]; · iexists f; iexact HS1
      iexact HG1
    isplitl [HS2 HG2]
    · isplitl [HS2]; · iexists f; iexact HS2
      iexact HG2
    isplitl [HS3 HG3]
    · isplitl [HS3]; · iexists f; iexact HS3
      iexact HG3
    iexact HW

end Cert.Kernel.Pos

end
-- ==== Proof.Kernel.Run.lean ====
/-
  The kernel's run.

  The one grid point holds both tables whole in their staging buffers, so the body's triple is the point's. The output is the one
  array the body writes itself: before the point it is as launched, after it `image` of the two tables. The host's transpose
  follows. The run ends with the result the transposed `image`, the arguments as launched and every semaphore at zero.
-/
module

public import proofs.«01_k».proof.Proof.Kernel.Body
public import proofs.«01_k».proof.Proof.Gen.Kernel.Frame
public import Idealize.ShloMosaic.Lib.Pipeline.FrameSuffixV

@[expose] public section

set_option maxRecDepth 16384

noncomputable section

namespace Cert.Kernel.Pos

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Running a list of steps -/

variable (m : (ℓ : Loc nD τ sig) → Buf (Elt F) ℓ) (ρ : Dev nD → PrngReg)

/-! ## What the launch hands the body -/

/-- The thirty-two semaphores of the copies. -/
abbrev osem (a : Fin 8 × Fin 4) : SemLoc sig := SemLoc.dma (semIJ a.1 a.2)
theorem ownSemFacts : Pipeline.OwnSemFacts spec0 osem := by decide +kernel

abbrev heldRefs : Finset (Ref sig .tc) := ∅
/-- The array the body writes. -/
abbrev writtenRefs : Finset (Ref sig .tc) := {main_v0}
theorem heldRefs_sub : heldRefs ⊆ Pipeline.restRefs sig spec0 := by decide
theorem writtenRefs_sub : writtenRefs ⊆ Pipeline.restRefs sig spec0 \ heldRefs := by decide

/-- The tables' blocks are the tables. -/
theorem iblk_row (c : Dev nD) (t : Fin cfg0.N) : iblk m c 0 t = m ((c : Thread nD τ).loc main_arg1) :=
  funext fun x => congrArg (m ((c : Thread nD τ).loc main_arg1)) (funext fun a => Fin.ext (by
    show 0 * (win0_0.size a) + 1 * (x a).val = (x a).val
    omega))
theorem iblk_col (c : Dev nD) (t : Fin cfg0.N) : iblk m c 1 t = m ((c : Thread nD τ).loc main_arg2) :=
  funext fun x => congrArg (m ((c : Thread nD τ).loc main_arg2)) (funext fun a => Fin.ext (by
    show 0 * (win0_1.size a) + 1 * (x a).val = (x a).val
    omega))

/-- The output of the launched tables. -/
abbrev launched (c : Dev nD) : Vec F S8x64x64x512 .f32 := image (m ((c : Thread nD τ).loc main_arg1)) (m ((c : Thread nD τ).loc main_arg2))

/-- What the buffers hold after the point: the output at `image`, every other as launched. -/
def afterPoint (c : Dev nD) (b : Ref sig .tc) : Buf (Elt F) ((c : Thread nD τ).loc b) :=
  if h : b = main_v0 then h ▸ launched m c else V m c b

theorem afterPoint_out (c : Dev nD) : afterPoint m c main_v0 = launched m c := by
  unfold afterPoint
  rw [dif_pos rfl]

/-- The body's resources outside the staging buffers, the output at `g`. -/
def phi (c : Dev nD) (g : Vec F S8x64x64x512 .f32) : sProp 𝕄 :=
  iprop((∃ f : Buf (Elt F) ((c : Thread nD τ).loc cc0_scratch0), ((c : Thread nD τ).loc cc0_scratch0) ↦{fullShare} f)
    ∗ cells c ∗ (((c : Thread nD τ).loc main_v0) ↦{fullShare} g))

theorem phi_eq (c : Dev nD) (G : (c : Dev nD) → (b : Ref sig .tc) → Buf (Elt F) ((c : Thread nD τ).loc b)) :
    Pipeline.ΦDRV osem spec0 heldRefs writtenRefs (V m) G c = phi c (G c main_v0) := by
  unfold Pipeline.ΦDRV Pipeline.ownSems0 phi cells
  rw [scopedRest0_eq, bigSep_singleton, BI.bigSep_univ_prod]
  exact congrArg (fun P : sProp 𝕄 => iprop((∃ f : Buf (Elt F) ((c : Thread nD τ).loc cc0_scratch0), ((c : Thread nD τ).loc cc0_scratch0) ↦{fullShare} f) ∗ cells c ∗ P))
    (equiv_iff.mp BI.emp_sep)

/-! ## The proof data and the point -/

/-- The arrays as launched, each window's buffer left as found, the output written at the point. -/
def dats (_ : Fin 1) (c : Dev nD) : Pipeline.Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := phi c (if t.val = 0 then V m c main_v0 else launched m c)
  q _ := fullShare
  owed _ := 0

theorem A_eq (c : Dev nD) (w : Fin cfg0.W) : (dats m 0 c).A w = V m c (Pipeline.arrRef spec0 w) := by
  dsimp only [dats]

theorem before_row (c : Dev nD) (t : Fin cfg0.N) (d) : (dats m 0 c).before 0 t d = iblk m c 0 t :=
  ((dats m 0 c).before_in_eq_fetched 0 rfl (fun _ => rfl) (fun _ _ _ => rfl) (fun t => by rfl) t d).trans (by rfl)
theorem before_col (c : Dev nD) (t : Fin cfg0.N) (d) : (dats m 0 c).before 1 t d = iblk m c 1 t :=
  ((dats m 0 c).before_in_eq_fetched 1 rfl (fun _ => rfl) (fun _ _ _ => rfl) (fun t => by rfl) t d).trans (by rfl)

abbrev stageRow (t : Fin cfg0.N) := (cfg0.win 0).stage (cfg0.slots t 0)
abbrev stageCol (t : Fin cfg0.N) := (cfg0.win 1).stage (cfg0.slots t 1)

def pointPre (c : Dev nD) (t : Fin cfg0.N) : sProp 𝕄 :=
  iprop((dats m 0 c).Φ t.castSucc ∗ (dats m 0 c).owesAt () t.castSucc
    ∗ (∃ d, owns (c : Thread nD τ) (stageRow t) fullShare ((dats m 0 c).before 0 t d))
    ∗ (∃ d, owns (c : Thread nD τ) (stageCol t) fullShare ((dats m 0 c).before 1 t d)))
def pointPost (c : Dev nD) (t : Fin cfg0.N) : sProp 𝕄 :=
  iprop((dats m 0 c).Φ t.succ ∗ (dats m 0 c).owesAt () t.succ
    ∗ owns (c : Thread nD τ) (stageRow t) fullShare ((dats m 0 c).after 0 t)
    ∗ owns (c : Thread nD τ) (stageCol t) fullShare ((dats m 0 c).after 1 t))

theorem point_spec (c : Dev nD) (t : Fin cfg0.N) :
    pointPre m c t ⊢ wp frame (wpE (defs₀ (F := F)) Variants.none c none) Set.univ (bodyAt0 t) (fun _ => pointPost m c t) := by
  have h := body_spec c (stageRow t) (stageCol t) (m ((c : Thread nD τ).loc main_arg1)) (m ((c : Thread nD τ).loc main_arg2))
    (V m c main_v0) (hstage0_0 0) (hstage0_1 0)
  refine runs_conseq h ?_ ?_
  · unfold pointPre tables
    rw [show (dats m 0 c).Φ t.castSucc = phi c (V m c main_v0) from congrArg (phi c) (by rw [fin_N0 t]; exact if_pos rfl)]
    unfold Pipeline.Dat.owesAt Pipeline.owesWithin phi
    rw [show (dats m 0 c).owed t.castSucc = 0 from rfl]
    iintro ⟨⟨HS, HC, HO⟩, ⟨%W, -, HW⟩, ⟨%d0, H0⟩, ⟨%d1, H1⟩⟩
    rw [before_row, before_col, iblk_row, iblk_col]
    isplitl [H0 H1]
    · isplitl [H0]; · iexact H0
      iexact H1
    isplitl [HS]; · iexact HS
    isplitl [HO]; · iexact HO
    isplitl [HC]; · iexact HC
    iexists W; iexact HW
  · unfold pointPost tables
    rw [show (dats m 0 c).Φ t.succ = phi c (launched m c) from congrArg (phi c) (by rw [fin_N0 t]; exact if_neg (Nat.succ_ne_zero _))]
    unfold Pipeline.Dat.owesAt Pipeline.owesWithin phi
    rw [show (dats m 0 c).owed t.succ = 0 from rfl, show (dats m 0 c).after 0 t = iblk m c 0 t from rfl,
      show (dats m 0 c).after 1 t = iblk m c 1 t from rfl, iblk_row, iblk_col]
    iintro ⟨⟨H0, H1⟩, HS, HO, HC, ⟨%W, HW⟩⟩
    isplitl [HS HC HO]
    · isplitl [HS]; · iexact HS
      isplitl [HC]; · iexact HC
      iexact HO
    isplitl [HW]
    · iexists W; isplitr; · ipureintro; exact fun _ _ => Or.inl trivial
      iexact HW
    isplitl [H0]; · iexact H0
    iexact H1

theorem defs₀_row (t : Fin cfg0.N) : defs₀ (F := F) .tc cfg0.body (cfg0.bodyArgs t (cfg0.slots t)) = bodyAt0 t := by
  unfold defs₀
  rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (point_spec m c t) rfl .rfl fun _ => .rfl

/-! ## The run -/

set_option maxHeartbeats 800000 in
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [] [hostOps1] (by simp only [List.Forall]) (by simp only [List.Forall]) main_chain

/-- What a final state holds: each argument as launched, the result the transposed `image`, every semaphore at zero. -/
abbrev Final (r : PUnit × MemSt nD τ sig (Elt F)) : Prop :=
  (∀ c : Dev nD, r.2.mem ((c : Thread nD τ).loc main_v1) = transpose S8x512x64x64 [0, 3, 1, 2] (launched m c) transposes_S8x64x64x512_S8x512x64x64_0_3_1_2
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0

/-- The contents the host's transpose starts from. -/
abbrev entry (c : Dev nD) : Valuation τ sig (Elt F) :=
  Pipeline.withArrays spec0 c (Pipeline.withR (V0 m c) writtenRefs c (afterPoint m c)) fun w => (dats m 0 c).arrAt w cfg0.N

theorem entry_out (c : Dev nD) : entry m c (Proc.devRef .tc main_v0) = launched m c := by
  unfold entry
  rw [Pipeline.withArrays_of_ne _ c _ _ main_v0 (by exact (by decide : ∀ w, Pipeline.arrRef spec0 w ≠ main_v0)),
    Pipeline.withR_of_mem _ _ _ _ main_v0 (Finset.mem_singleton_self _), afterPoint_out]

theorem entry_arg0 (c : Dev nD) : entry m c (Proc.devRef .tc main_arg0) = m ((c : Thread nD τ).loc main_arg0) := by
  unfold entry
  rw [Pipeline.withArrays_of_ne _ c _ _ main_arg0 (by exact (by decide : ∀ w, Pipeline.arrRef spec0 w ≠ main_arg0)),
    Pipeline.withR_of_not_mem _ _ _ _ main_arg0 (by decide)]
  exact V_main_arg0 m c

theorem result_v1 (c : Dev nD) : StableHlo.after (List.flatten [hostOps1]) (entry m c) (Proc.devRef .tc main_v1)
    = transpose S8x512x64x64 [0, 3, 1, 2] (launched m c) transposes_S8x64x64x512_S8x512x64x64_0_3_1_2 := by
  rw [show List.flatten [hostOps1 (F := F)] = hostOps1 from rfl, StableHlo.after_cons, StableHlo.after_nil, StableHlo.unary_result, entry_out]

theorem result_arg0 (c : Dev nD) : StableHlo.after (List.flatten [hostOps1]) (entry m c) (Proc.devRef .tc main_arg0)
    = m ((c : Thread nD τ).loc main_arg0) := by
  rw [show List.flatten [hostOps1 (F := F)] = hostOps1 from rfl, StableHlo.after_cons, StableHlo.after_nil,
    StableHlo.unary_result_ne (r := main_arg0) (h := by decide), entry_arg0]

set_option backward.isDefEq.respectTransparency.types false in
theorem run_main : θ_run defs (onTc (τ := τ) (main (F := F))) ⟨m, fun _ => 0, ρ⟩ (Final m) :=
  Pipeline.θ_run_frame_dmaR_aroundV cfgs (dats m) (0 : Fin 1) launch0 osem defs₀ Variants.none ownSemFacts heldRefs writtenRefs heldRefs_sub
    writtenRefs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := afterPoint m) (hmain := main_around m Variants.none) (hA := A_eq m)
    (hin := fun c => Entails.of_eq (phi_eq m c (V m)))
    (hout := fun c => Entails.of_eq ((congrArg (phi c) (afterPoint_out m c).symm).trans (phi_eq m c (afterPoint m)).symm))
    (Q' := Final m)
    (hQ' := fun r h => ⟨fun c => ⟨
      ((h.1 c).2 main_v1 (Pipeline.mem_restRefs_of main_v1 (by decide) (by decide))).trans (result_v1 m c),
      ((h.1 c).2 main_arg0 (Pipeline.mem_restRefs_of main_arg0 (by decide) (by decide))).trans (result_arg0 m c),
      ((h.1 c).1 0).trans (((dats m 0 c).arrAt_in 0 rfl _).trans ((A_eq m c 0).trans (V_main_arg1 m c))),
      ((h.1 c).1 1).trans (((dats m 0 c).arrAt_in 1 rfl _).trans ((A_eq m c 1).trans (V_main_arg2 m c)))⟩, h.2⟩)

end Cert.Kernel.Pos

end
-- ==== Proof.KernelIdeal.Run.lean ====
/-
  The kernel at its ideal reading runs as the kernel itself does: the two programs have the same text, so a run of one on the
  extended reals is a run of the other, and ends as `run_main` says.
-/
module

public import proofs.«01_k».proof.Proof.Kernel.Run
public import proofs.«01_k».proof.Proof.Gen.KernelIdeal
public import Idealize.ShloMosaic.PureOps.Ideal
public import Idealize.ShloMosaic.Lib.Tactic

@[expose] public section

noncomputable section

namespace Cert.KernelIdeal.Pos

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- A run of the ideal program is a run of the kernel. -/
theorem same_run (Q : PUnit × MemSt nD τ sig (Elt Ideal) → Prop) :
    θ_run (defs (F := Ideal)) (onTc (τ := τ) (main (F := Ideal))) ⟨m, fun _ => 0, ρ⟩ Q
      = θ_run (Cert.Kernel.defs (F := Ideal)) (onTc (τ := Cert.Kernel.τ) (Cert.Kernel.main (F := Ideal))) ⟨m, fun _ => 0, ρ⟩ Q := by
  sl_kernel_rfl

/-- Every run of the ideal program ends with the result at the transposed output, the arguments unchanged and every counter zero. -/
theorem run_main : θ_run (defs (F := Ideal)) (onTc (τ := τ) (main (F := Ideal))) ⟨m, fun _ => 0, ρ⟩ (Cert.Kernel.Pos.Final (F := Ideal) m) :=
  (same_run m ρ _).mpr (Cert.Kernel.Pos.run_main (F := Ideal) m ρ)

end Cert.KernelIdeal.Pos

end
-- ==== Proof.Value.Words.lean ====
/-
  The two index computations of the kernel, on one 32-bit word.

  The kernel computes, of a row number `n` of a chunk, the remainder of `n` by 64 and the quotient of `n` by 64, each rounded
  toward minus infinity: the machine's truncating operation followed by a correction of the sign. A chunk has 1024 rows, so the
  correction never applies, and the two words are those of `n mod 64` and `n / 64`.
-/
module

public import Idealize.ShloMosaic.Lib.Routing.Words

@[expose] public section

namespace Cert.Value

open Idealize.ShloMosaic Idealize.ShloMosaic.Routing

/-- The divisor's guard as printed: 1 in the place of a zero divisor. -/
def guard : BitVec 32 := Scalar.select (Scalar.cmpi .eq 64#32 0#32) 1#32 64#32

/-- The remainder by 64 as printed. -/
def modWord (a : BitVec 32) : BitVec 32 :=
  Scalar.select
    (IntOp.andi (IntOp.xori (IntOp.cmpi .slt (IntOp.remsi .vector a guard) 0#32) (Scalar.cmpi .slt guard 0#32))
      (IntOp.cmpi .ne (IntOp.remsi .vector a guard) 0#32))
    (IntOp.addi (IntOp.remsi .vector a guard) guard) (IntOp.remsi .vector a guard)

/-- The sign of 64 as printed. -/
def sign64 : BitVec 32 := Scalar.subi (Scalar.extui (Scalar.cmpi .sgt 64#32 0#32)) (Scalar.extui (Scalar.cmpi .slt 64#32 0#32))

/-- The quotient by 64 as printed. -/
def divWord (a : BitVec 32) : BitVec 32 :=
  Scalar.select
    (IntOp.andi (IntOp.cmpi .ne (IntOp.subi ((IntOp.cmpi .sgt a 0#32).setWidth 32) ((IntOp.cmpi .slt a 0#32).setWidth 32)) sign64)
      (IntOp.cmpi .ne (IntOp.remsi .vector a 64#32) 0#32))
    (IntOp.subi (IntOp.divsi .vector a 64#32) 1#32) (IntOp.divsi .vector a 64#32)

theorem rem64 {n : ℕ} (h : n < 1024) : IntOp.remsi .vector (BitVec.ofNat 32 n) 64#32 = BitVec.ofNat 32 (n % 64) :=
  remsi_word .vector (by omega) (by decide) (by decide)

theorem div64 {n : ℕ} (h : n < 1024) : IntOp.divsi .vector (BitVec.ofNat 32 n) 64#32 = BitVec.ofNat 32 (n / 64) :=
  divsi_word .vector (by omega) (by decide) (by decide)

theorem guard_eq : guard = 64#32 := by decide

/-- A remainder below 64 needs no correction of its sign. -/
theorem mod_correction : ∀ k : Fin 64,
    Scalar.select (IntOp.andi (IntOp.xori (IntOp.cmpi .slt (BitVec.ofNat 32 k.val) 0#32) (Scalar.cmpi .slt 64#32 0#32))
      (IntOp.cmpi .ne (BitVec.ofNat 32 k.val) 0#32)) (IntOp.addi (BitVec.ofNat 32 k.val) 64#32) (BitVec.ofNat 32 k.val)
      = BitVec.ofNat 32 k.val := by
  decide +kernel

/-- A quotient of a row number needs no correction of its sign. -/
theorem div_correction : ∀ n : Fin 1024,
    IntOp.andi (IntOp.cmpi .ne (IntOp.subi ((IntOp.cmpi .sgt (BitVec.ofNat 32 n.val) 0#32).setWidth 32)
      ((IntOp.cmpi .slt (BitVec.ofNat 32 n.val) 0#32).setWidth 32)) sign64)
      (IntOp.cmpi .ne (BitVec.ofNat 32 (n.val % 64)) 0#32) = 0#1 := by
  decide +kernel

/-- The printed remainder of a row number is the word of its remainder by 64. -/
theorem modWord_eq {n : ℕ} (h : n < 1024) : modWord (BitVec.ofNat 32 n) = BitVec.ofNat 32 (n % 64) := by
  unfold modWord
  rw [guard_eq, rem64 h]
  exact mod_correction ⟨n % 64, Nat.mod_lt _ (by decide)⟩

/-- The printed quotient of a row number is the word of its quotient by 64. -/
theorem divWord_eq {n : ℕ} (h : n < 1024) : divWord (BitVec.ofNat 32 n) = BitVec.ofNat 32 (n / 64) := by
  unfold divWord
  rw [rem64 h, div64 h, div_correction ⟨n, h⟩]
  rfl

end Cert.Value
-- ==== Proof.Value.Payload.lean ====
/-
  What one store of the kernel writes, on the extended reals.

  Every payload is a selection matrix times an embedding. The selection matrix has, in row `r`, a one in the lane whose number is
  a word computed from `r`, and zeros elsewhere; so the product's row `r` is that row of the embedding. Zero times anything is zero
  on the extended reals, infinities included, so this needs no assumption on the embedding.
-/
module

public import proofs.«01_k».proof.Proof.Kernel.Program
public import proofs.«01_k».proof.Proof.Value.Words
public import Idealize.ShloMosaic.PureOps.Ideal
public import Idealize.ShloMosaic.Lib.ValueIdx
public import Idealize.ShloMosaic.Lib.MatmulPlain
public import Idealize.ShloMosaic.Lib.Pipeline.Value

@[expose] public section

noncomputable section

namespace Cert.Value

open Cert.Kernel Cert.Kernel.Gen Cert.Kernel.Pos
open Idealize.ShloMosaic Idealize.ShloMosaic.ValueIdx
open scoped BigOperators

/-- The selection matrix of a word function `f`: in row `r` and lane `l`, whether `l` is the word `f r`. -/
def hot (f : BitVec 32 → BitVec 32) : FVec Ideal S1024x64 .f32 := fun i =>
  FloatOps.sitofp .f32 ((IntOp.cmpi .eq (lanes i) (f (rows i))).setWidth 32)

/-- The selection matrix of `f` times the embedding `v`. -/
def picked (f : BitVec 32 → BitVec 32) (v : Vec Ideal S64x256 .f32) : FVec Ideal S1024x256 .f32 :=
  k0_pay4 (hot f) v

theorem pay1_eq : k0_pay1 (F := Ideal) = hot modWord := rfl

/-- The left half of every chunk selects by the remainder of the row number. -/
theorem payX_eq (v : Vec Ideal S64x256 .f32) : payX v = picked modWord v := rfl

/-- The right half of chunk `j` selects by the quotient of the row number, plus `16 j`. -/
theorem payY_eq (j : Fin 4) (v : Vec Ideal S64x256 .f32) :
    payY j v = picked (fun a => divWord a + BitVec.ofNat 32 (16 * j.val)) v := by
  fin_cases j <;> rfl

/-- Two small words are equal exactly when their numbers are. -/
theorem word_inj {l n : ℕ} (hl : l < 64) (hn : n < 64) : BitVec.ofNat 32 l = BitVec.ofNat 32 n ↔ l = n := by
  constructor
  · intro h
    have := congrArg BitVec.toNat h
    simp only [BitVec.toNat_ofNat] at this
    omega
  · rintro rfl; rfl

/-- One entry of a selection matrix is one or zero. -/
theorem hot_apply {f : BitVec 32 → BitVec 32} {r : Fin 1024} {n : Fin 64} (h : f (BitVec.ofNat 32 r.val) = BitVec.ofNat 32 n.val)
    (l : Fin 64) : hot f (ix2 r l) = if l = n then (1 : EReal) else 0 := by
  have hr : rows (ix2 r l) = BitVec.ofNat 32 r.val := iota_single_apply .tc S1024x64 32 0 _ (ix2 r l)
  have hl : lanes (ix2 r l) = BitVec.ofNat 32 l.val := iota_single_apply .tc S1024x64 32 1 _ (ix2 r l)
  unfold hot
  rw [hr, hl, h]
  show (((IntOp.cmpi .eq (BitVec.ofNat 32 l.val) (BitVec.ofNat 32 n.val)).setWidth 32).toInt : ℝ) = (_ : EReal)
  have hw := word_inj l.isLt n.isLt
  by_cases e : l = n
  · rw [if_pos e, e]
    have : IntOp.cmpi .eq (BitVec.ofNat 32 n.val) (BitVec.ofNat 32 n.val) = 1#1 := by simp [IntOp.cmpi]
    rw [this]
    norm_num
  · rw [if_neg e]
    have : IntOp.cmpi .eq (BitVec.ofNat 32 l.val) (BitVec.ofNat 32 n.val) = 0#1 := by
      have hne : ¬ BitVec.ofNat 32 l.val = BitVec.ofNat 32 n.val := fun e' => e (Fin.ext (hw.mp e'))
      show BitVec.ofBool (BitVec.ofNat 32 l.val == BitVec.ofNat 32 n.val) = 0#1
      rw [beq_eq_false_iff_ne.mpr hne]
      rfl
    rw [this]
    norm_num

/-- A row of the product is the selected row of the embedding. -/
theorem picked_apply {f : BitVec 32 → BitVec 32} (v : Vec Ideal S64x256 .f32) {r : Fin 1024} {n : Fin 64}
    (h : f (BitVec.ofNat 32 r.val) = BitVec.ofNat 32 n.val) (k : Fin 256) : picked f v (ix2 r k) = v (ix2 n k) := by
  show shapeCast S1024x256 (FloatOps.matmul (DotDims.plain 1024 64 256) none (hot f) v (constant S1024x256 .f32 0x00000000#32)) _ (ix2 r k) = _
  rw [shapeCast_self]
  refine (Ideal.matmul_plain_apply none (hot f) v _ r k).trans ?_
  rw [Finset.sum_eq_single n]
  · rw [hot_apply h, if_pos rfl, one_mul]
    show Ideal.ofBits .f32 0x00000000#32 + _ = _
    rw [show Ideal.ofBits .f32 0x00000000#32 = 0 by simp [Ideal.ofBits, Ideal.ieee], zero_add]
  · intro l _ hl
    rw [hot_apply h, if_neg hl, zero_mul]
  · intro hn
    exact absurd (Finset.mem_univ n) hn

/-- Row `r` of the left half of a chunk is row `r mod 64` of the column embedding. -/
theorem payX_apply (v : Vec Ideal S64x256 .f32) (r : Fin 1024) (k : Fin 256) :
    payX v (ix2 r k) = v (ix2 ⟨r.val % 64, Nat.mod_lt _ (by decide)⟩ k) := by
  rw [payX_eq]
  exact picked_apply v (modWord_eq r.isLt) k

/-- Row `r` of the right half of chunk `j` is row `r / 64 + 16 j` of the row embedding. -/
theorem payY_apply (j : Fin 4) (v : Vec Ideal S64x256 .f32) (r : Fin 1024) (k : Fin 256) :
    payY j v (ix2 r k) = v (ix2 ⟨r.val / 64 + 16 * j.val, by omega⟩ k) := by
  rw [payY_eq]
  refine picked_apply v ?_ k
  show divWord (BitVec.ofNat 32 r.val) + _ = _
  rw [divWord_eq r.isLt, BitVec.ofNat_add]

end Cert.Value

end
-- ==== Proof.Value.Output.lean ====
/-
  What the kernel's result holds, on the extended reals.

  `positions u v` is the result in plain terms: at batch `b`, feature `k`, row `y` and column `x` it is entry `k` of row `x` of the
  column embedding `v` for `k` below 256, and entry `k - 256` of row `y` of the row embedding `u` from there on. The kernel's output
  is that array with the feature axis last, and the transpose after the launch moves it to its place.
-/
module

public import proofs.«01_k».proof.Proof.Kernel.Contents
public import proofs.«01_k».proof.Proof.Value.Payload

@[expose] public section

noncomputable section

namespace Cert.Value

open Cert.Kernel Cert.Kernel.Gen Cert.Kernel.Pos
open Idealize.ShloMosaic Idealize.ShloMosaic.ValueIdx

/-- One entry of the position embedding. -/
def entry (u v : Vec Ideal S64x256 .f32) (y x : Fin 64) (k : Fin 512) : Ideal .f32 :=
  if h : k.val < 256 then v (ix2 x ⟨k.val, h⟩) else u (ix2 y ⟨k.val - 256, by omega⟩)

/-- The position embedding, repeated over the batch. -/
def positions (u v : Vec Ideal S64x256 .f32) : Vec Ideal S8x512x64x64 .f32 := fun p => entry u v (p 2) (p 3) (p 1)

/-- Row `64 y + x` of the filled scratch is the position embedding of row `y` and column `x`. -/
theorem image_apply (u v : Vec Ideal S64x256 .f32) (b : Fin 8) (y x : Fin 64) (k : Fin 512) :
    image u v (ix4 b y x k) = entry u v y x k := by
  show scr u v (ix2 ⟨64 * y.val + x.val, _⟩ k) = _
  unfold entry
  by_cases h : k.val < 256
  · rw [dif_pos h]
    refine (show _ = payX v (ix2 (⟨(64 * y.val + x.val) % 1024, Nat.mod_lt _ (by decide)⟩ : Fin 1024) (⟨k.val, h⟩ : Fin 256)) from
      dif_pos h).trans ((payX_apply v _ _).trans (congrArg v ?_))
    refine congrArg (fun a => ix2 a (⟨k.val, h⟩ : Fin 256)) (Fin.ext ?_)
    show (64 * y.val + x.val) % 1024 % 64 = x.val
    omega
  · rw [dif_neg h]
    refine (show _ = payY (⟨(64 * y.val + x.val) / 1024, by omega⟩ : Fin 4) u
      (ix2 (⟨(64 * y.val + x.val) % 1024, Nat.mod_lt _ (by decide)⟩ : Fin 1024) (⟨k.val - 256, by omega⟩ : Fin 256)) from
      dif_neg h).trans ((payY_apply _ u _ _).trans (congrArg u ?_))
    refine congrArg (fun a => ix2 a (⟨k.val - 256, by omega⟩ : Fin 256)) (Fin.ext ?_)
    show (64 * y.val + x.val) % 1024 / 64 + 16 * ((64 * y.val + x.val) / 1024) = y.val
    omega

/-- The kernel's transposed output is the position embedding. -/
theorem output_eq (u v : Vec Ideal S64x256 .f32) (h : S8x64x64x512.Transposes [0, 3, 1, 2] S8x512x64x64) :
    transpose S8x512x64x64 [0, 3, 1, 2] (image u v) h = positions u v := by
  funext p
  refine (transpose_apply [0, 3, 1, 2] (image u v) h p (ix4 (p 0) (p 2) (p 3) (p 1)) fun b => ?_).trans
    (image_apply u v (p 0) (p 2) (p 3) (p 1))
  fin_cases b <;> rfl

end Cert.Value

end
-- ==== Proof.Value.Reference.lean ====
/-
  What the reference computes, on the extended reals.

  It takes rows 0 to 63 of each embedding by a gather whose start indices are the numbers 0 to 63, with a fill value for indices out
  of range; none is, so the gather returns the embedding itself. It then lays the column embedding along the rows and the row
  embedding along the columns, puts the two side by side on the feature axis, moves that axis to the front and repeats the array
  over the batch: `positions`.
-/
module

public import proofs.«01_k».proof.Proof.Gen.ReferenceIdeal.Run
public import proofs.«01_k».proof.Proof.Value.Output
public import Idealize.ShloMosaic.Lib.Routing.OpsPair
public import Idealize.ShloMosaic.PureOps.Reduce

@[expose] public section

noncomputable section

namespace Cert.Value

open Cert.ReferenceIdeal Cert.ReferenceIdeal.Gen
open Idealize.ShloMosaic Idealize.ShloMosaic.ValueIdx Idealize.ShloMosaic.Routing

/-- The start indices of the gather: the numbers 0 to 63, a negative one moved up by 64. -/
def starts : IVec S64x1 32 :=
  broadcastInDim S64x1 ![0] bcast_S64_S64x1_0 (select (cmpi .slt (iotaInDim S64 32 0) (broadcastInDim S64 ![] bcast_S_S64 (constantI S_ 32 0#32)))
    (addi (iotaInDim S64 32 0) (broadcastInDim S64 ![] bcast_S_S64 (constantI S_ 32 64#32))) (iotaInDim S64 32 0))

/-- Whether each start index is in range. -/
def inRange : IVec S64x1 1 :=
  andi (cmpi .sge starts (broadcastInDim S64x1 ![] bcast_S_S64x1 (constantI S_ 32 0#32)))
    (cmpi .sle starts (broadcastInDim S64x1 ![0, 1] bcast_S1x1_S64x1_0_1 (broadcastInDim S1x1 ![1] bcast_S1_S1x1_1 (constantI S1 32 63#32))))

/-- The rows taken of an embedding. -/
def taken (v : Vec Ideal S64x256 .f32) : Vec Ideal S64x256 .f32 :=
  select (broadcastInDim S64x256 ![0] bcast_S64_S64x256_0 (Host.reduce IntOp.andi inRange (constantI S_ 1 1#1) reducesTo_S64x1_S64_d1 h_S_))
    (Host.gather gather_S64x256_S64x1_S64x256_1_0_n_n_0_1_1256 v starts)
    (broadcastInDim S64x256 ![] bcast_S_S64x256 (constant (F := Ideal) S_ .f32 0x7FC00000#32 : Vec Ideal S_ .f32))

/-- The reference's result, of its two embeddings. -/
def reference (u v : Vec Ideal S64x256 .f32) : Vec Ideal S8x512x64x64 .f32 :=
  broadcastInDim S8x512x64x64 ![0, 1, 2, 3] bcast_S1x512x64x64_S8x512x64x64_0_1_2_3
    (broadcastInDim S1x512x64x64 ![1, 2, 3] bcast_S512x64x64_S1x512x64x64_1_2_3
      (transpose S512x64x64 [2, 0, 1]
        (concatenate S64x64x512 2
          [⟨S64x64x256, broadcastInDim S64x64x256 ![0, 1, 2] bcast_S1x64x256_S64x64x256_0_1_2
              (broadcastInDim S1x64x256 ![1, 2] bcast_S64x256_S1x64x256_1_2 (taken v))⟩,
            ⟨S64x64x256, broadcastInDim S64x64x256 ![0, 1, 2] bcast_S64x1x256_S64x64x256_0_1_2
              (broadcastInDim S64x1x256 ![0, 2] bcast_S64x256_S64x1x256_0_2 (taken u))⟩]
          concatenates_S64x64x256_S64x64x256_S64x64x512_d2)
        transposes_S64x64x512_S512x64x64_2_0_1))

/-- Start index `p` is the word of `p`. -/
theorem starts_apply (p : Fin 64) : starts (ix2 p (0 : Fin 1)) = BitVec.ofNat 32 p.val := by
  unfold starts
  refine (bcCol bcast_S64_S64x1_0 _ p).trans (wrap_of_lt (BitVec.ofNat 32 p.val) _ ?_)
  rw [BitVec.toNat_ofNat]
  omega

/-- The words 0 to 63 lie between 0 and 63. -/
theorem range_word : ∀ p : Fin 64,
    IntOp.andi (IntOp.cmpi .sge (BitVec.ofNat 32 p.val) 0#32) (IntOp.cmpi .sle (BitVec.ofNat 32 p.val) 63#32) = 1#1 := by
  decide +kernel

/-- Every start index is in range. -/
theorem inRange_eq : inRange = fun _ => 1#1 := by
  funext i
  obtain ⟨p, q, rfl⟩ : ∃ (p : Fin 64) (q : Fin 1), i = ix2 p q := ⟨_, _, eq_ix2 i⟩
  obtain rfl : q = 0 := Subsingleton.elim _ _
  show IntOp.andi (IntOp.cmpi .sge (starts (ix2 p (0 : Fin 1))) 0#32) (IntOp.cmpi .sle (starts (ix2 p (0 : Fin 1))) 63#32) = 1#1
  rw [starts_apply]
  exact range_word p

/-- The conjunction of ones is one. -/
theorem foldl_ones {α : Type} (l : List α) : l.foldl (fun (r : BitVec 1) _ => IntOp.andi r 1#1) 1#1 = 1#1 := by
  induction l with
  | nil => rfl
  | cons a l ih => exact ih

theorem mask_eq : Host.reduce IntOp.andi inRange (constantI S_ 1 1#1) reducesTo_S64x1_S64_d1 h_S_ = fun _ => 1#1 := by
  funext j
  rw [Host.reduce_eq_foldl, inRange_eq]
  exact foldl_ones _

/-- The rows taken are the embedding itself. -/
theorem taken_eq (v : Vec Ideal S64x256 .f32) : taken v = v := by
  funext i
  obtain ⟨p, k, rfl⟩ : ∃ (p : Fin 64) (k : Fin 256), i = ix2 p k := ⟨_, _, eq_ix2 i⟩
  unfold taken
  rw [mask_eq]
  exact gather_row gather_S64x256_S64x1_S64x256_1_0_n_n_0_1_1256 rfl rfl rfl rfl rfl v starts p k p (starts_apply p) (by decide)

/-- The column embedding laid along the rows. -/
theorem along_rows (v : Vec Ideal S64x256 .f32) (y x : Fin 64) (k : Fin 256) :
    broadcastInDim S64x64x256 ![0, 1, 2] bcast_S1x64x256_S64x64x256_0_1_2
      (broadcastInDim S1x64x256 ![1, 2] bcast_S64x256_S1x64x256_1_2 v) (ix3 y x k) = v (ix2 x k) := by
  refine (broadcastInDim_apply _ _ _ _ (ix3 (0 : Fin 1) x k) fun a => ?_).trans
    (broadcastInDim_apply _ _ _ _ (ix2 x k) fun a => ?_) <;> fin_cases a <;> rfl

/-- The row embedding laid along the columns. -/
theorem along_columns (u : Vec Ideal S64x256 .f32) (y x : Fin 64) (k : Fin 256) :
    broadcastInDim S64x64x256 ![0, 1, 2] bcast_S64x1x256_S64x64x256_0_1_2
      (broadcastInDim S64x1x256 ![0, 2] bcast_S64x256_S64x1x256_0_2 u) (ix3 y x k) = u (ix2 y k) := by
  refine (broadcastInDim_apply _ _ _ _ (ix3 y (0 : Fin 1) k) fun a => ?_).trans
    (broadcastInDim_apply _ _ _ _ (ix2 y k) fun a => ?_) <;> fin_cases a <;> rfl

/-- The reference's result is the position embedding. -/
theorem reference_eq (u v : Vec Ideal S64x256 .f32) : reference u v = positions u v := by
  funext p
  obtain ⟨b, k, y, x, rfl⟩ : ∃ (b : Fin 8) (k : Fin 512) (y x : Fin 64), p = ix4 b k y x := ⟨_, _, _, _, eq_ix4 p⟩
  unfold reference
  rw [taken_eq, taken_eq]
  refine (broadcastInDim_apply _ _ _ _ (ix4 (0 : Fin 1) k y x) fun a => ?_).trans
    ((broadcastInDim_apply _ _ _ _ (ix3 k y x) fun a => ?_).trans
      ((transpose_apply _ _ _ _ (ix3 y x k) fun a => ?_).trans ?_))
  · fin_cases a <;> rfl
  · fin_cases a <;> rfl
  · fin_cases a <;> rfl
  show _ = entry u v y x k
  unfold entry
  by_cases h : k.val < 256
  · rw [dif_pos h]
    refine (concatenate_pair_apply_left (t := S64x64x512) (s₁ := S64x64x256) (s₂ := S64x64x256) 2 _ _ _ (ix3 y x k) rfl (ix3 y x (⟨k.val, h⟩ : Fin 256) : S64x64x256.Idx) fun a => ?_).trans (along_rows v y x _)
    fin_cases a <;> rfl
  · rw [dif_neg h]
    refine (concatenate_pair_apply_right (t := S64x64x512) (s₁ := S64x64x256) (s₂ := S64x64x256) 2 _ _ _ (ix3 y x k) rfl rfl (ix3 y x (⟨k.val - 256, by omega⟩ : Fin 256) : S64x64x256.Idx) (fun a ha => ?_) ?_).trans
      (along_columns u y x _)
    · fin_cases a
      · rfl
      · rfl
      · exact absurd rfl ha
    · show k.val - 256 + 256 = k.val
      omega

end Cert.Value

end
-- ==== Proof.lean ====
/-
  The claims, from the runs and the value equation.

  The kernel's run (Proof/Kernel/Run.lean) ends with the result at the transposed output, the arguments unchanged and every counter
  zero, whatever the float values; the ideal program runs the same way (Proof/KernelIdeal/Run.lean). Its output and the reference's
  result are both `positions` of the two embeddings (Proof/Value/Output.lean, Proof/Value/Reference.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Run
public import proofs.«01_k».proof.Proof.Value.Reference
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Value

/-- Three arrays unchanged and zero counters, out of the kernel's end. -/
theorem frame_kernel : Cert.quiescent_Kernel (hKernel := Cert.Kernel.Gen.facts) := fun m ρ _ =>
  (θ_run Cert.Kernel.defs _ _).mono (fun _ h => ⟨fun c => (h.1 c).2, h.2⟩) (Cert.Kernel.Pos.run_main (F := Bits) m ρ)

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Pos.run_main m ρ)

/-- The reference has no semaphores. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference's run, its result in one word. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc Cert.ReferenceIdeal.main_v11)
        = positions (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2) :=
  (θ_run Cert.ReferenceIdeal.defs _ _).mono (fun _ h c => ⟨(h c).1.trans (reference_eq _ _), (h c).2⟩)
    (Cert.ReferenceIdeal.Value.run (F := Ideal) m ρ)

/-- The kernel and the reference both end with the position embedding. -/
theorem equal_results : Cert.algebraic_KernelIdeal_ReferenceIdeal (hKernelIdeal := Cert.KernelIdeal.Gen.facts)
    (hReferenceIdeal := Cert.ReferenceIdeal.Gen.facts) := by
  intro m ρ m' ρ' _ hagree
  refine ⟨fun c => positions (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun _ h c => ⟨(h.1 c).1.trans (output_eq _ _ _), (h.1 c).2⟩)
      (Cert.KernelIdeal.Pos.run_main m ρ)
  · refine (θ_run Cert.ReferenceIdeal.defs _ _).mono (fun _ h c => ⟨(h c).1.trans ?_, (h c).2⟩) (reference_run m' ρ')
    rw [(hagree c).2.1, (hagree c).2.2]

theorem claim : Cert.Claim :=
  ⟨Cert.Kernel.Gen.facts, Cert.KernelIdeal.Gen.facts, Cert.ReferenceIdeal.Gen.facts,
    frame_kernel, frame_ideal, frame_reference, trivial, equal_results⟩

end Cert.Proof

end
